-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInProjIdeal (m : (ℓ : Loc Cert.RefInProjIdeal.nD Cert.RefInProjIdeal.τ Cert.RefInProjIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutProjIdeal (m : (ℓ : Loc Cert.RefOutProjIdeal.nD Cert.RefOutProjIdeal.τ Cert.RefOutProjIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_RefGateUpIdeal (m : (ℓ : Loc Cert.RefGateUpIdeal.nD Cert.RefGateUpIdeal.τ Cert.RefGateUpIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_RefInProjIdeal [hRefInProjIdeal : Cert.RefInProjIdeal.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1)
      ∧ r.2.mem ((c.tc : Thread Cert.RefInProjIdeal.nD Cert.RefInProjIdeal.τ).loc Cert.RefInProjIdeal.main_arg2) = m ((c.tc : Thread Cert.RefInProjIdeal.nD Cert.RefInProjIdeal.τ).loc Cert.RefInProjIdeal.main_arg2)
      ∧ r.2.mem ((c.tc : Thread Cert.RefInProjIdeal.nD Cert.RefInProjIdeal.τ).loc Cert.RefInProjIdeal.main_arg3) = m ((c.tc : Thread Cert.RefInProjIdeal.nD Cert.RefInProjIdeal.τ).loc Cert.RefInProjIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_RefOutProjIdeal [hRefOutProjIdeal : Cert.RefOutProjIdeal.Facts] : Prop :=
  ∀ (m : (ℓ : Loc Cert.RefOutProjIdeal.nD Cert.RefOutProjIdeal.τ Cert.RefOutProjIdeal.sig) → Buf (Elt Ideal) ℓ) (g : Dev Cert.RefOutProjIdeal.nD → PrngReg), Pre_RefOutProjIdeal m →
    θ_run (Cert.RefOutProjIdeal.defs (F := Ideal)) (onTc (τ := Cert.RefOutProjIdeal.τ) (Cert.RefOutProjIdeal.main (F := Ideal))) ⟨m, fun _ => 0, g⟩ (fun r => (∀ c : Dev Cert.RefOutProjIdeal.nD,
      r.2.mem ((c.tc : Thread Cert.RefOutProjIdeal.nD Cert.RefOutProjIdeal.τ).loc Cert.RefOutProjIdeal.main_arg0) = m ((c.tc : Thread Cert.RefOutProjIdeal.nD Cert.RefOutProjIdeal.τ).loc Cert.RefOutProjIdeal.main_arg0)
      ∧ r.2.mem ((c.tc : Thread Cert.RefOutProjIdeal.nD Cert.RefOutProjIdeal.τ).loc Cert.RefOutProjIdeal.main_arg1) = m ((c.tc : Thread Cert.RefOutProjIdeal.nD Cert.RefOutProjIdeal.τ).loc Cert.RefOutProjIdeal.main_arg1)
      ∧ r.2.mem ((c.tc : Thread Cert.RefOutProjIdeal.nD Cert.RefOutProjIdeal.τ).loc Cert.RefOutProjIdeal.main_arg2) = m ((c.tc : Thread Cert.RefOutProjIdeal.nD Cert.RefOutProjIdeal.τ).loc Cert.RefOutProjIdeal.main_arg2)
      ∧ r.2.mem ((c.tc : Thread Cert.RefOutProjIdeal.nD Cert.RefOutProjIdeal.τ).loc Cert.RefOutProjIdeal.main_arg3) = m ((c.tc : Thread Cert.RefOutProjIdeal.nD Cert.RefOutProjIdeal.τ).loc Cert.RefOutProjIdeal.main_arg3)
      ∧ r.2.mem ((c.tc : Thread Cert.RefOutProjIdeal.nD Cert.RefOutProjIdeal.τ).loc Cert.RefOutProjIdeal.main_arg4) = m ((c.tc : Thread Cert.RefOutProjIdeal.nD Cert.RefOutProjIdeal.τ).loc Cert.RefOutProjIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_RefGateUpIdeal [hRefGateUpIdeal : Cert.RefGateUpIdeal.Facts] : Prop :=
  ∀ (m : (ℓ : Loc Cert.RefGateUpIdeal.nD Cert.RefGateUpIdeal.τ Cert.RefGateUpIdeal.sig) → Buf (Elt Ideal) ℓ) (g : Dev Cert.RefGateUpIdeal.nD → PrngReg), Pre_RefGateUpIdeal m →
    θ_run (Cert.RefGateUpIdeal.defs (F := Ideal)) (onTc (τ := Cert.RefGateUpIdeal.τ) (Cert.RefGateUpIdeal.main (F := Ideal))) ⟨m, fun _ => 0, g⟩ (fun r => (∀ c : Dev Cert.RefGateUpIdeal.nD,
      r.2.mem ((c.tc : Thread Cert.RefGateUpIdeal.nD Cert.RefGateUpIdeal.τ).loc Cert.RefGateUpIdeal.main_arg0) = m ((c.tc : Thread Cert.RefGateUpIdeal.nD Cert.RefGateUpIdeal.τ).loc Cert.RefGateUpIdeal.main_arg0)
      ∧ r.2.mem ((c.tc : Thread Cert.RefGateUpIdeal.nD Cert.RefGateUpIdeal.τ).loc Cert.RefGateUpIdeal.main_arg1) = m ((c.tc : Thread Cert.RefGateUpIdeal.nD Cert.RefGateUpIdeal.τ).loc Cert.RefGateUpIdeal.main_arg1)
      ∧ r.2.mem ((c.tc : Thread Cert.RefGateUpIdeal.nD Cert.RefGateUpIdeal.τ).loc Cert.RefGateUpIdeal.main_arg2) = m ((c.tc : Thread Cert.RefGateUpIdeal.nD Cert.RefGateUpIdeal.τ).loc Cert.RefGateUpIdeal.main_arg2)
      ∧ r.2.mem ((c.tc : Thread Cert.RefGateUpIdeal.nD Cert.RefGateUpIdeal.τ).loc Cert.RefGateUpIdeal.main_arg3) = m ((c.tc : Thread Cert.RefGateUpIdeal.nD Cert.RefGateUpIdeal.τ).loc Cert.RefGateUpIdeal.main_arg3)
      ∧ r.2.mem ((c.tc : Thread Cert.RefGateUpIdeal.nD Cert.RefGateUpIdeal.τ).loc Cert.RefGateUpIdeal.main_arg4) = m ((c.tc : Thread Cert.RefGateUpIdeal.nD Cert.RefGateUpIdeal.τ).loc Cert.RefGateUpIdeal.main_arg4)
      ∧ r.2.mem ((c.tc : Thread Cert.RefGateUpIdeal.nD Cert.RefGateUpIdeal.τ).loc Cert.RefGateUpIdeal.main_arg5) = m ((c.tc : Thread Cert.RefGateUpIdeal.nD Cert.RefGateUpIdeal.τ).loc Cert.RefGateUpIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3)
      ∧ r.2.mem ((c.tc : Thread Cert.RefDownIdeal.nD Cert.RefDownIdeal.τ).loc Cert.RefDownIdeal.main_arg4) = m ((c.tc : Thread Cert.RefDownIdeal.nD Cert.RefDownIdeal.τ).loc Cert.RefDownIdeal.main_arg4))
      ∧ r.2.sem = fun _ => 0)

def preserves_InProj_InProjIdeal : Prop :=
  True

def algebraic_InProjIdeal_RefInProjIdeal [hInProjIdeal : Cert.InProjIdeal.Facts] [hRefInProjIdeal : Cert.RefInProjIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInProjIdeal.nD Cert.RefInProjIdeal.τ Cert.RefInProjIdeal.sig) → Buf (Elt Ideal) ℓ) (g' : Dev Cert.RefInProjIdeal.nD → PrngReg), Pre_InProjIdeal m →
    (∀ c : Dev Cert.InProjIdeal.nD,
      m' ((c.tc : Thread Cert.RefInProjIdeal.nD Cert.RefInProjIdeal.τ).loc Cert.RefInProjIdeal.main_arg0) = m ((c.tc : Thread Cert.InProjIdeal.nD Cert.InProjIdeal.τ).loc Cert.InProjIdeal.main_arg0)
      ∧ m' ((c.tc : Thread Cert.RefInProjIdeal.nD Cert.RefInProjIdeal.τ).loc Cert.RefInProjIdeal.main_arg1) = m ((c.tc : Thread Cert.InProjIdeal.nD Cert.InProjIdeal.τ).loc Cert.InProjIdeal.main_arg1)
      ∧ m' ((c.tc : Thread Cert.RefInProjIdeal.nD Cert.RefInProjIdeal.τ).loc Cert.RefInProjIdeal.main_arg2) = m ((c.tc : Thread Cert.InProjIdeal.nD Cert.InProjIdeal.τ).loc Cert.InProjIdeal.main_arg2)
      ∧ m' ((c.tc : Thread Cert.RefInProjIdeal.nD Cert.RefInProjIdeal.τ).loc Cert.RefInProjIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_2)) (v2 : (c : Dev Cert.InProjIdeal.nD) → Buf (Elt Ideal) ((c.tc : Thread Cert.InProjIdeal.nD Cert.InProjIdeal.τ).loc Cert.InProjIdeal.main_v4_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_2) = v1 c
          ∧ r.2.mem ((c.tc : Thread Cert.InProjIdeal.nD Cert.InProjIdeal.τ).loc Cert.InProjIdeal.main_v4_3) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.RefInProjIdeal.defs (F := Ideal)) (onTc (τ := Cert.RefInProjIdeal.τ) (Cert.RefInProjIdeal.main (F := Ideal))) ⟨m', fun _ => 0, g'⟩ (fun r => ∀ c : Dev Cert.RefInProjIdeal.nD,
          r.2.mem ((c.tc : Thread Cert.RefInProjIdeal.nD Cert.RefInProjIdeal.τ).loc Cert.RefInProjIdeal.main_v3_0) = v0 c
          ∧ r.2.mem ((c.tc : Thread Cert.RefInProjIdeal.nD Cert.RefInProjIdeal.τ).loc Cert.RefInProjIdeal.main_v3_1) = v1 c
          ∧ r.2.mem ((c.tc : Thread Cert.RefInProjIdeal.nD Cert.RefInProjIdeal.τ).loc Cert.RefInProjIdeal.main_v3_2) = v2 c
          ∧ r.2.mem ((c.tc : Thread Cert.RefInProjIdeal.nD Cert.RefInProjIdeal.τ).loc Cert.RefInProjIdeal.main_arg0) = m' ((c.tc : Thread Cert.RefInProjIdeal.nD Cert.RefInProjIdeal.τ).loc Cert.RefInProjIdeal.main_arg0)
          ∧ r.2.mem ((c.tc : Thread Cert.RefInProjIdeal.nD Cert.RefInProjIdeal.τ).loc Cert.RefInProjIdeal.main_arg1) = m' ((c.tc : Thread Cert.RefInProjIdeal.nD Cert.RefInProjIdeal.τ).loc Cert.RefInProjIdeal.main_arg1)
          ∧ r.2.mem ((c.tc : Thread Cert.RefInProjIdeal.nD Cert.RefInProjIdeal.τ).loc Cert.RefInProjIdeal.main_arg2) = m' ((c.tc : Thread Cert.RefInProjIdeal.nD Cert.RefInProjIdeal.τ).loc Cert.RefInProjIdeal.main_arg2)
          ∧ r.2.mem ((c.tc : Thread Cert.RefInProjIdeal.nD Cert.RefInProjIdeal.τ).loc Cert.RefInProjIdeal.main_arg3) = m' ((c.tc : Thread Cert.RefInProjIdeal.nD Cert.RefInProjIdeal.τ).loc Cert.RefInProjIdeal.main_arg3))

def preserves_OutProj_OutProjIdeal : Prop :=
  True

def algebraic_OutProjIdeal_RefOutProjIdeal [hOutProjIdeal : Cert.OutProjIdeal.Facts] [hRefOutProjIdeal : Cert.RefOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutProjIdeal.nD Cert.RefOutProjIdeal.τ Cert.RefOutProjIdeal.sig) → Buf (Elt Ideal) ℓ) (g' : Dev Cert.RefOutProjIdeal.nD → PrngReg), Pre_OutProjIdeal m →
    (∀ c : Dev Cert.OutProjIdeal.nD,
      m' ((c.tc : Thread Cert.RefOutProjIdeal.nD Cert.RefOutProjIdeal.τ).loc Cert.RefOutProjIdeal.main_arg0) = m ((c.tc : Thread Cert.OutProjIdeal.nD Cert.OutProjIdeal.τ).loc Cert.OutProjIdeal.main_arg0)
      ∧ m' ((c.tc : Thread Cert.RefOutProjIdeal.nD Cert.RefOutProjIdeal.τ).loc Cert.RefOutProjIdeal.main_arg1) = m ((c.tc : Thread Cert.OutProjIdeal.nD Cert.OutProjIdeal.τ).loc Cert.OutProjIdeal.main_arg1)
      ∧ m' ((c.tc : Thread Cert.RefOutProjIdeal.nD Cert.RefOutProjIdeal.τ).loc Cert.RefOutProjIdeal.main_arg2) = m ((c.tc : Thread Cert.OutProjIdeal.nD Cert.OutProjIdeal.τ).loc Cert.OutProjIdeal.main_arg2)
      ∧ m' ((c.tc : Thread Cert.RefOutProjIdeal.nD Cert.RefOutProjIdeal.τ).loc Cert.RefOutProjIdeal.main_arg3) = m ((c.tc : Thread Cert.OutProjIdeal.nD Cert.OutProjIdeal.τ).loc Cert.OutProjIdeal.main_arg3)
      ∧ m' ((c.tc : Thread Cert.RefOutProjIdeal.nD Cert.RefOutProjIdeal.τ).loc Cert.RefOutProjIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)) (v2 : (c : Dev Cert.OutProjIdeal.nD) → Buf (Elt Ideal) ((c.tc : Thread Cert.OutProjIdeal.nD Cert.OutProjIdeal.τ).loc Cert.OutProjIdeal.main_v3_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_v3_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.RefOutProjIdeal.defs (F := Ideal)) (onTc (τ := Cert.RefOutProjIdeal.τ) (Cert.RefOutProjIdeal.main (F := Ideal))) ⟨m', fun _ => 0, g'⟩ (fun r => ∀ c : Dev Cert.RefOutProjIdeal.nD,
          r.2.mem ((c.tc : Thread Cert.RefOutProjIdeal.nD Cert.RefOutProjIdeal.τ).loc Cert.RefOutProjIdeal.main_v2_0) = v0 c
          ∧ r.2.mem ((c.tc : Thread Cert.RefOutProjIdeal.nD Cert.RefOutProjIdeal.τ).loc Cert.RefOutProjIdeal.main_v2_1) = v1 c
          ∧ r.2.mem ((c.tc : Thread Cert.RefOutProjIdeal.nD Cert.RefOutProjIdeal.τ).loc Cert.RefOutProjIdeal.main_v2_2) = v2 c
          ∧ r.2.mem ((c.tc : Thread Cert.RefOutProjIdeal.nD Cert.RefOutProjIdeal.τ).loc Cert.RefOutProjIdeal.main_arg0) = m' ((c.tc : Thread Cert.RefOutProjIdeal.nD Cert.RefOutProjIdeal.τ).loc Cert.RefOutProjIdeal.main_arg0)
          ∧ r.2.mem ((c.tc : Thread Cert.RefOutProjIdeal.nD Cert.RefOutProjIdeal.τ).loc Cert.RefOutProjIdeal.main_arg1) = m' ((c.tc : Thread Cert.RefOutProjIdeal.nD Cert.RefOutProjIdeal.τ).loc Cert.RefOutProjIdeal.main_arg1)
          ∧ r.2.mem ((c.tc : Thread Cert.RefOutProjIdeal.nD Cert.RefOutProjIdeal.τ).loc Cert.RefOutProjIdeal.main_arg2) = m' ((c.tc : Thread Cert.RefOutProjIdeal.nD Cert.RefOutProjIdeal.τ).loc Cert.RefOutProjIdeal.main_arg2)
          ∧ r.2.mem ((c.tc : Thread Cert.RefOutProjIdeal.nD Cert.RefOutProjIdeal.τ).loc Cert.RefOutProjIdeal.main_arg3) = m' ((c.tc : Thread Cert.RefOutProjIdeal.nD Cert.RefOutProjIdeal.τ).loc Cert.RefOutProjIdeal.main_arg3)
          ∧ r.2.mem ((c.tc : Thread Cert.RefOutProjIdeal.nD Cert.RefOutProjIdeal.τ).loc Cert.RefOutProjIdeal.main_arg4) = m' ((c.tc : Thread Cert.RefOutProjIdeal.nD Cert.RefOutProjIdeal.τ).loc Cert.RefOutProjIdeal.main_arg4))

def preserves_GateUp_GateUpIdeal : Prop :=
  True

def algebraic_GateUpIdeal_RefGateUpIdeal [hGateUpIdeal : Cert.GateUpIdeal.Facts] [hRefGateUpIdeal : Cert.RefGateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.RefGateUpIdeal.nD Cert.RefGateUpIdeal.τ Cert.RefGateUpIdeal.sig) → Buf (Elt Ideal) ℓ) (g' : Dev Cert.RefGateUpIdeal.nD → PrngReg), Pre_GateUpIdeal m →
    (∀ c : Dev Cert.GateUpIdeal.nD,
      m' ((c.tc : Thread Cert.RefGateUpIdeal.nD Cert.RefGateUpIdeal.τ).loc Cert.RefGateUpIdeal.main_arg0) = m ((c.tc : Thread Cert.GateUpIdeal.nD Cert.GateUpIdeal.τ).loc Cert.GateUpIdeal.main_arg0)
      ∧ m' ((c.tc : Thread Cert.RefGateUpIdeal.nD Cert.RefGateUpIdeal.τ).loc Cert.RefGateUpIdeal.main_arg1) = m ((c.tc : Thread Cert.GateUpIdeal.nD Cert.GateUpIdeal.τ).loc Cert.GateUpIdeal.main_arg1)
      ∧ m' ((c.tc : Thread Cert.RefGateUpIdeal.nD Cert.RefGateUpIdeal.τ).loc Cert.RefGateUpIdeal.main_arg2) = m ((c.tc : Thread Cert.GateUpIdeal.nD Cert.GateUpIdeal.τ).loc Cert.GateUpIdeal.main_arg2)
      ∧ m' ((c.tc : Thread Cert.RefGateUpIdeal.nD Cert.RefGateUpIdeal.τ).loc Cert.RefGateUpIdeal.main_arg3) = m ((c.tc : Thread Cert.GateUpIdeal.nD Cert.GateUpIdeal.τ).loc Cert.GateUpIdeal.main_arg3)
      ∧ m' ((c.tc : Thread Cert.RefGateUpIdeal.nD Cert.RefGateUpIdeal.τ).loc Cert.RefGateUpIdeal.main_arg4) = m ((c.tc : Thread Cert.GateUpIdeal.nD Cert.GateUpIdeal.τ).loc Cert.GateUpIdeal.main_arg4)
      ∧ m' ((c.tc : Thread Cert.RefGateUpIdeal.nD Cert.RefGateUpIdeal.τ).loc Cert.RefGateUpIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v2_0)) (v1 : (c : Dev Cert.GateUpIdeal.nD) → Buf (Elt Ideal) ((c.tc : Thread Cert.GateUpIdeal.nD Cert.GateUpIdeal.τ).loc Cert.GateUpIdeal.main_v2_1)) (v2 : (c : Dev Cert.GateUpIdeal.nD) → Buf (Elt Ideal) ((c.tc : Thread Cert.GateUpIdeal.nD Cert.GateUpIdeal.τ).loc Cert.GateUpIdeal.main_v2_2)) (v3 : (c : Dev Cert.GateUpIdeal.nD) → Buf (Elt Ideal) ((c.tc : Thread Cert.GateUpIdeal.nD Cert.GateUpIdeal.τ).loc Cert.GateUpIdeal.main_v2_3)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2_0) = v0 c
          ∧ r.2.mem ((c.tc : Thread Cert.GateUpIdeal.nD Cert.GateUpIdeal.τ).loc Cert.GateUpIdeal.main_v2_1) = v1 c
          ∧ r.2.mem ((c.tc : Thread Cert.GateUpIdeal.nD Cert.GateUpIdeal.τ).loc Cert.GateUpIdeal.main_v2_2) = v2 c
          ∧ r.2.mem ((c.tc : Thread Cert.GateUpIdeal.nD Cert.GateUpIdeal.τ).loc Cert.GateUpIdeal.main_v2_3) = v3 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.RefGateUpIdeal.defs (F := Ideal)) (onTc (τ := Cert.RefGateUpIdeal.τ) (Cert.RefGateUpIdeal.main (F := Ideal))) ⟨m', fun _ => 0, g'⟩ (fun r => ∀ c : Dev Cert.RefGateUpIdeal.nD,
          r.2.mem ((c.tc : Thread Cert.RefGateUpIdeal.nD Cert.RefGateUpIdeal.τ).loc Cert.RefGateUpIdeal.main_v2_0) = v0 c
          ∧ r.2.mem ((c.tc : Thread Cert.RefGateUpIdeal.nD Cert.RefGateUpIdeal.τ).loc Cert.RefGateUpIdeal.main_v2_1) = v1 c
          ∧ r.2.mem ((c.tc : Thread Cert.RefGateUpIdeal.nD Cert.RefGateUpIdeal.τ).loc Cert.RefGateUpIdeal.main_v2_2) = v2 c
          ∧ r.2.mem ((c.tc : Thread Cert.RefGateUpIdeal.nD Cert.RefGateUpIdeal.τ).loc Cert.RefGateUpIdeal.main_v2_3) = v3 c
          ∧ r.2.mem ((c.tc : Thread Cert.RefGateUpIdeal.nD Cert.RefGateUpIdeal.τ).loc Cert.RefGateUpIdeal.main_arg0) = m' ((c.tc : Thread Cert.RefGateUpIdeal.nD Cert.RefGateUpIdeal.τ).loc Cert.RefGateUpIdeal.main_arg0)
          ∧ r.2.mem ((c.tc : Thread Cert.RefGateUpIdeal.nD Cert.RefGateUpIdeal.τ).loc Cert.RefGateUpIdeal.main_arg1) = m' ((c.tc : Thread Cert.RefGateUpIdeal.nD Cert.RefGateUpIdeal.τ).loc Cert.RefGateUpIdeal.main_arg1)
          ∧ r.2.mem ((c.tc : Thread Cert.RefGateUpIdeal.nD Cert.RefGateUpIdeal.τ).loc Cert.RefGateUpIdeal.main_arg2) = m' ((c.tc : Thread Cert.RefGateUpIdeal.nD Cert.RefGateUpIdeal.τ).loc Cert.RefGateUpIdeal.main_arg2)
          ∧ r.2.mem ((c.tc : Thread Cert.RefGateUpIdeal.nD Cert.RefGateUpIdeal.τ).loc Cert.RefGateUpIdeal.main_arg3) = m' ((c.tc : Thread Cert.RefGateUpIdeal.nD Cert.RefGateUpIdeal.τ).loc Cert.RefGateUpIdeal.main_arg3)
          ∧ r.2.mem ((c.tc : Thread Cert.RefGateUpIdeal.nD Cert.RefGateUpIdeal.τ).loc Cert.RefGateUpIdeal.main_arg4) = m' ((c.tc : Thread Cert.RefGateUpIdeal.nD Cert.RefGateUpIdeal.τ).loc Cert.RefGateUpIdeal.main_arg4)
          ∧ r.2.mem ((c.tc : Thread Cert.RefGateUpIdeal.nD Cert.RefGateUpIdeal.τ).loc Cert.RefGateUpIdeal.main_arg5) = m' ((c.tc : Thread Cert.RefGateUpIdeal.nD Cert.RefGateUpIdeal.τ).loc Cert.RefGateUpIdeal.main_arg5))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)
      ∧ m' ((c.tc : Thread Cert.RefDownIdeal.nD Cert.RefDownIdeal.τ).loc Cert.RefDownIdeal.main_arg3) = m ((c.tc : Thread Cert.DownIdeal.nD Cert.DownIdeal.τ).loc Cert.DownIdeal.main_arg3)
      ∧ m' ((c.tc : Thread Cert.RefDownIdeal.nD Cert.RefDownIdeal.τ).loc Cert.RefDownIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v1_0) = v0 c
          ∧ r.2.mem ((c.tc : Thread Cert.RefDownIdeal.nD Cert.RefDownIdeal.τ).loc Cert.RefDownIdeal.main_v1_1) = v1 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2)
          ∧ r.2.mem ((c.tc : Thread Cert.RefDownIdeal.nD Cert.RefDownIdeal.τ).loc Cert.RefDownIdeal.main_arg3) = m' ((c.tc : Thread Cert.RefDownIdeal.nD Cert.RefDownIdeal.τ).loc Cert.RefDownIdeal.main_arg3)
          ∧ r.2.mem ((c.tc : Thread Cert.RefDownIdeal.nD Cert.RefDownIdeal.τ).loc Cert.RefDownIdeal.main_arg4) = m' ((c.tc : Thread Cert.RefDownIdeal.nD Cert.RefDownIdeal.τ).loc Cert.RefDownIdeal.main_arg4))

def Claim : Prop :=
  ∃ (hInProj : Cert.InProj.Facts) (hInProjIdeal : Cert.InProjIdeal.Facts) (hRefInProjIdeal : Cert.RefInProjIdeal.Facts) (hOutProj : Cert.OutProj.Facts) (hOutProjIdeal : Cert.OutProjIdeal.Facts) (hRefOutProjIdeal : Cert.RefOutProjIdeal.Facts) (hGateUp : Cert.GateUp.Facts) (hGateUpIdeal : Cert.GateUpIdeal.Facts) (hRefGateUpIdeal : Cert.RefGateUpIdeal.Facts) (hDown : Cert.Down.Facts) (hDownIdeal : Cert.DownIdeal.Facts) (hRefDownIdeal : Cert.RefDownIdeal.Facts),
    quiescent_InProj (hInProj := hInProj)
    ∧ quiescent_InProjIdeal (hInProjIdeal := hInProjIdeal)
    ∧ quiescent_RefInProjIdeal (hRefInProjIdeal := hRefInProjIdeal)
    ∧ quiescent_OutProj (hOutProj := hOutProj)
    ∧ quiescent_OutProjIdeal (hOutProjIdeal := hOutProjIdeal)
    ∧ quiescent_RefOutProjIdeal (hRefOutProjIdeal := hRefOutProjIdeal)
    ∧ quiescent_GateUp (hGateUp := hGateUp)
    ∧ quiescent_GateUpIdeal (hGateUpIdeal := hGateUpIdeal)
    ∧ quiescent_RefGateUpIdeal (hRefGateUpIdeal := hRefGateUpIdeal)
    ∧ quiescent_Down (hDown := hDown)
    ∧ quiescent_DownIdeal (hDownIdeal := hDownIdeal)
    ∧ quiescent_RefDownIdeal (hRefDownIdeal := hRefDownIdeal)
    ∧ preserves_InProj_InProjIdeal
    ∧ algebraic_InProjIdeal_RefInProjIdeal (hInProjIdeal := hInProjIdeal) (hRefInProjIdeal := hRefInProjIdeal)
    ∧ preserves_OutProj_OutProjIdeal
    ∧ algebraic_OutProjIdeal_RefOutProjIdeal (hOutProjIdeal := hOutProjIdeal) (hRefOutProjIdeal := hRefOutProjIdeal)
    ∧ preserves_GateUp_GateUpIdeal
    ∧ algebraic_GateUpIdeal_RefGateUpIdeal (hGateUpIdeal := hGateUpIdeal) (hRefGateUpIdeal := hRefGateUpIdeal)
    ∧ preserves_Down_DownIdeal
    ∧ algebraic_DownIdeal_RefDownIdeal (hDownIdeal := hDownIdeal) (hRefDownIdeal := hRefDownIdeal)
-- ==== InProj.lean ====
abbrev S96x1x4096 : Shape := ⟨3, ![96, 1, 4096]⟩
abbrev S4096 : Shape := ⟨1, ![4096]⟩
abbrev S4096x23264 : Shape := ⟨2, ![4096, 23264]⟩
abbrev S23264 : Shape := ⟨1, ![23264]⟩
abbrev S96x4096 : Shape := ⟨2, ![96, 4096]⟩
abbrev S1x4096 : Shape := ⟨2, ![1, 4096]⟩
abbrev S23264x4096 : Shape := ⟨2, ![23264, 4096]⟩
abbrev S1x23264 : Shape := ⟨2, ![1, 23264]⟩
abbrev S96x1x23264 : Shape := ⟨3, ![96, 1, 23264]⟩
abbrev S96x184x128 : Shape := ⟨3, ![96, 184, 128]⟩
abbrev S96x1 : Shape := ⟨2, ![96, 1]⟩
abbrev S1024x4096 : Shape := ⟨2, ![1024, 4096]⟩
abbrev S1x1024 : Shape := ⟨2, ![1, 1024]⟩
abbrev S96x1x1024 : Shape := ⟨3, ![96, 1, 1024]⟩
abbrev S96x8x128 : Shape := ⟨3, ![96, 8, 128]⟩
abbrev S96 : Shape := ⟨1, ![96]⟩
abbrev S96x1024 : Shape := ⟨2, ![96, 1024]⟩
abbrev S96x128 : Shape := ⟨2, ![96, 128]⟩
abbrev S96x1x128 : Shape := ⟨3, ![96, 1, 128]⟩

abbrev nBuf : Space → Nat
  | .hbm => 12
  | .vmem => 12
  | .smem => 0
  | _ => 0

abbrev bufTy : (tb : Table) → Fin (tcTables nBuf tb) → BufTy
  | .hbm, ⟨0, _⟩ => ⟨S96x1x4096, .bf16⟩
  | .hbm, ⟨1, _⟩ => ⟨S4096, .f32⟩
  | .hbm, ⟨2, _⟩ => ⟨S4096x23264, .fp8e4m3⟩
  | .hbm, ⟨3, _⟩ => ⟨S23264, .f32⟩
  | .hbm, ⟨4, _⟩ => ⟨S96x4096, .bf16⟩
  | .hbm, ⟨5, _⟩ => ⟨S1x4096, .f32⟩
  | .hbm, ⟨6, _⟩ => ⟨S23264x4096, .fp8e4m3⟩
  | .hbm, ⟨7, _⟩ => ⟨S1x23264, .f32⟩
  | .hbm, ⟨8, _⟩ => ⟨S96x1x23264, .f32⟩
  | .hbm, ⟨9, _⟩ => ⟨S96x184x128, .f32⟩
  | .hbm, ⟨10, _⟩ => ⟨S96x4096, .fp8e4m3⟩
  | .hbm, ⟨11, _⟩ => ⟨S96x1, .f32⟩
  | .local _ .vmem, ⟨0, _⟩ => ⟨S96x4096, .bf16⟩
  | .local _ .vmem, ⟨1, _⟩ => ⟨S1x4096, .f32⟩
  | .local _ .vmem, ⟨2, _⟩ => ⟨S1024x4096, .fp8e4m3⟩
  | .local _ .vmem, ⟨3, _⟩ => ⟨S1024x4096, .fp8e4m3⟩
  | .local _ .vmem, ⟨4, _⟩ => ⟨S1x1024, .f32⟩
  | .local _ .vmem, ⟨5, _⟩ => ⟨S1x1024, .f32⟩
  | .local _ .vmem, ⟨6, _⟩ => ⟨S96x1x1024, .f32⟩
  | .local _ .vmem, ⟨7, _⟩ => ⟨S96x1x1024, .f32⟩
  | .local _ .vmem, ⟨8, _⟩ => ⟨S96x8x128, .f32⟩
  | .local _ .vmem, ⟨9, _⟩ => ⟨S96x8x128, .f32⟩
  | .local _ .vmem, ⟨10, _⟩ => ⟨S96x4096, .fp8e4m3⟩
  | .local _ .vmem, ⟨11, _⟩ => ⟨S96x1, .f32⟩
  | _, _ => ⟨S96x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![23], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S96x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RefInProjIdeal.lean ====
abbrev S96x1x4096 : Shape := ⟨3, ![96, 1, 4096]⟩
abbrev S4096 : Shape := ⟨1, ![4096]⟩
abbrev S4096x23264 : Shape := ⟨2, ![4096, 23264]⟩
abbrev S23264 : Shape := ⟨1, ![23264]⟩
abbrev S96x4096 : Shape := ⟨2, ![96, 4096]⟩
abbrev S1x4096 : Shape := ⟨2, ![1, 4096]⟩
abbrev S1x23264 : Shape := ⟨2, ![1, 23264]⟩
abbrev S96x1x23264 : Shape := ⟨3, ![96, 1, 23264]⟩
abbrev S96x1 : Shape := ⟨2, ![96, 1]⟩
abbrev S96 : Shape := ⟨1, ![96]⟩
abbrev S96x23264 : Shape := ⟨2, ![96, 23264]⟩

abbrev nBuf : Space → Nat
  | .hbm => 10
  | .vmem => 7
  | .smem => 0
  | _ => 0

abbrev bufTy : (tb : Table) → Fin (tcTables nBuf tb) → BufTy
  | .hbm, ⟨0, _⟩ => ⟨S96x1x4096, .bf16⟩
  | .hbm, ⟨1, _⟩ => ⟨S4096, .f32⟩
  | .hbm, ⟨2, _⟩ => ⟨S4096x23264, .fp8e4m3⟩
  | .hbm, ⟨3, _⟩ => ⟨S23264, .f32⟩
  | .hbm, ⟨4, _⟩ => ⟨S96x4096, .bf16⟩
  | .hbm, ⟨5, _⟩ => ⟨S1x4096, .f32⟩
  | .hbm, ⟨6, _⟩ => ⟨S1x23264, .f32⟩
  | .hbm, ⟨7, _⟩ => ⟨S96x1x23264, .f32⟩
  | .hbm, ⟨8, _⟩ => ⟨S96x4096, .fp8e4m3⟩
  | .hbm, ⟨9, _⟩ => ⟨S96x1, .f32⟩
  | .local _ .vmem, ⟨0, _⟩ => ⟨S96x4096, .bf16⟩
  | .local _ .vmem, ⟨1, _⟩ => ⟨S1x4096, .f32⟩
  | .local _ .vmem, ⟨2, _⟩ => ⟨S4096x23264, .fp8e4m3⟩
  | .local _ .vmem, ⟨3, _⟩ => ⟨S1x23264, .f32⟩
  | .local _ .vmem, ⟨4, _⟩ => ⟨S96x1x23264, .f32⟩
  | .local _ .vmem, ⟨5, _⟩ => ⟨S96x4096, .fp8e4m3⟩
  | .local _ .vmem, ⟨6, _⟩ => ⟨S96x1, .f32⟩
  | _, _ => ⟨S96x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S96x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x23264 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x23264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x1x23264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== OutProj.lean ====
abbrev S96x56x128 : Shape := ⟨3, ![96, 56, 128]⟩
abbrev S96x1x4096 : Shape := ⟨3, ![96, 1, 4096]⟩
abbrev S7168x4096 : Shape := ⟨2, ![7168, 4096]⟩
abbrev S4096 : Shape := ⟨1, ![4096]⟩
abbrev S96x4096 : Shape := ⟨2, ![96, 4096]⟩
abbrev S1x4096 : Shape := ⟨2, ![1, 4096]⟩
abbrev S96x32x128 : Shape := ⟨3, ![96, 32, 128]⟩
abbrev S96x7168 : Shape := ⟨2, ![96, 7168]⟩
abbrev S96x1 : Shape := ⟨2, ![96, 1]⟩
abbrev S96x1024 : Shape := ⟨2, ![96, 1024]⟩
abbrev S7168x1024 : Shape := ⟨2, ![7168, 1024]⟩
abbrev S1x1024 : Shape := ⟨2, ![1, 1024]⟩
abbrev S96x8x128 : Shape := ⟨3, ![96, 8, 128]⟩
abbrev S96x128 : Shape := ⟨2, ![96, 128]⟩
abbrev S96x1x128 : Shape := ⟨3, ![96, 1, 128]⟩
abbrev S96 : Shape := ⟨1, ![96]⟩

abbrev nBuf : Space → Nat
  | .hbm => 14
  | .vmem => 15
  | .smem => 0
  | _ => 0

abbrev bufTy : (tb : Table) → Fin (tcTables nBuf tb) → BufTy
  | .hbm, ⟨0, _⟩ => ⟨S96x56x128, .f32⟩
  | .hbm, ⟨1, _⟩ => ⟨S96x1x4096, .bf16⟩
  | .hbm, ⟨2, _⟩ => ⟨S7168x4096, .fp8e4m3⟩
  | .hbm, ⟨3, _⟩ => ⟨S4096, .f32⟩
  | .hbm, ⟨4, _⟩ => ⟨S4096, .f32⟩
  | .hbm, ⟨5, _⟩ => ⟨S96x4096, .bf16⟩
  | .hbm, ⟨6, _⟩ => ⟨S1x4096, .f32⟩
  | .hbm, ⟨7, _⟩ => ⟨S1x4096, .f32⟩
  | .hbm, ⟨8, _⟩ => ⟨S96x32x128, .f32⟩
  | .hbm, ⟨9, _⟩ => ⟨S96x7168, .fp8e4m3⟩
  | .hbm, ⟨10, _⟩ => ⟨S96x1, .f32⟩
  | .hbm, ⟨11, _⟩ => ⟨S96x4096, .f32⟩
  | .hbm, ⟨12, _⟩ => ⟨S96x4096, .fp8e4m3⟩
  | .hbm, ⟨13, _⟩ => ⟨S96x1, .f32⟩
  | .local _ .vmem, ⟨0, _⟩ => ⟨S96x56x128, .f32⟩
  | .local _ .vmem, ⟨1, _⟩ => ⟨S96x1024, .bf16⟩
  | .local _ .vmem, ⟨2, _⟩ => ⟨S96x1024, .bf16⟩
  | .local _ .vmem, ⟨3, _⟩ => ⟨S7168x1024, .fp8e4m3⟩
  | .local _ .vmem, ⟨4, _⟩ => ⟨S7168x1024, .fp8e4m3⟩
  | .local _ .vmem, ⟨5, _⟩ => ⟨S1x1024, .f32⟩
  | .local _ .vmem, ⟨6, _⟩ => ⟨S1x1024, .f32⟩
  | .local _ .vmem, ⟨7, _⟩ => ⟨S1x4096, .f32⟩
  | .local _ .vmem, ⟨8, _⟩ => ⟨S96x8x128, .f32⟩
  | .local _ .vmem, ⟨9, _⟩ => ⟨S96x8x128, .f32⟩
  | .local _ .vmem, ⟨10, _⟩ => ⟨S96x7168, .fp8e4m3⟩
  | .local _ .vmem, ⟨11, _⟩ => ⟨S96x1, .f32⟩
  | .local _ .vmem, ⟨12, _⟩ => ⟨S96x4096, .f32⟩
  | .local _ .vmem, ⟨13, _⟩ => ⟨S96x4096, .fp8e4m3⟩
  | .local _ .vmem, ⟨14, _⟩ => ⟨S96x1, .f32⟩
  | _, _ => ⟨S96x56x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c1024_i32 : BitVec 32 := 1024#32
  let v51 : BitVec 32 := Scalar.muli arg0 c1024_i32
  v51
def k0_off1 (i : grid0.Coords) : Fin 2 → Nat :=
  let c0_27 : Index := 0#32
  let arg0 : BitVec 32 := BitVec.ofNat 32 (i 0).val
  let c1024_i32 : BitVec 32 := 1024#32
  let v51 : BitVec 32 := Scalar.muli arg0 c1024_i32
  let v52 : BitVec 32 := v51
  let v53 : Index := Scalar.indexCast v52
  ![0, v53.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c3_i32 : BitVec 32 := 3#32
  let v55 : BitVec 1 := Scalar.cmpi .eq arg0 c3_i32
  let v56 : BitVec 32 := Scalar.extui v55
  let c0_i32_28 : BitVec 32 := 0#32
  let v57 : BitVec 1 := Scalar.cmpi .ne v56 c0_i32_28
  v57

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x56x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S96x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7168x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S96x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S96x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S96x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S96x4096 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S96x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RefOutProjIdeal.lean ====
abbrev S96x56x128 : Shape := ⟨3, ![96, 56, 128]⟩
abbrev S96x1x4096 : Shape := ⟨3, ![96, 1, 4096]⟩
abbrev S7168x4096 : Shape := ⟨2, ![7168, 4096]⟩
abbrev S4096 : Shape := ⟨1, ![4096]⟩
abbrev S96x7168 : Shape := ⟨2, ![96, 7168]⟩
abbrev S1x4096 : Shape := ⟨2, ![1, 4096]⟩
abbrev S96x32x128 : Shape := ⟨3, ![96, 32, 128]⟩
abbrev S96x1 : Shape := ⟨2, ![96, 1]⟩
abbrev S96 : Shape := ⟨1, ![96]⟩
abbrev S96x4096 : Shape := ⟨2, ![96, 4096]⟩

abbrev nBuf : Space → Nat
  | .hbm => 10
  | .vmem => 6
  | .smem => 0
  | _ => 0

abbrev bufTy : (tb : Table) → Fin (tcTables nBuf tb) → BufTy
  | .hbm, ⟨0, _⟩ => ⟨S96x56x128, .f32⟩
  | .hbm, ⟨1, _⟩ => ⟨S96x1x4096, .bf16⟩
  | .hbm, ⟨2, _⟩ => ⟨S7168x4096, .fp8e4m3⟩
  | .hbm, ⟨3, _⟩ => ⟨S4096, .f32⟩
  | .hbm, ⟨4, _⟩ => ⟨S4096, .f32⟩
  | .hbm, ⟨5, _⟩ => ⟨S96x7168, .f32⟩
  | .hbm, ⟨6, _⟩ => ⟨S1x4096, .f32⟩
  | .hbm, ⟨7, _⟩ => ⟨S96x32x128, .f32⟩
  | .hbm, ⟨8, _⟩ => ⟨S96x7168, .fp8e4m3⟩
  | .hbm, ⟨9, _⟩ => ⟨S96x1, .f32⟩
  | .local _ .vmem, ⟨0, _⟩ => ⟨S96x7168, .f32⟩
  | .local _ .vmem, ⟨1, _⟩ => ⟨S7168x4096, .fp8e4m3⟩
  | .local _ .vmem, ⟨2, _⟩ => ⟨S1x4096, .f32⟩
  | .local _ .vmem, ⟨3, _⟩ => ⟨S96x32x128, .f32⟩
  | .local _ .vmem, ⟨4, _⟩ => ⟨S96x7168, .fp8e4m3⟩
  | .local _ .vmem, ⟨5, _⟩ => ⟨S96x1, .f32⟩
  | _, _ => ⟨S96x56x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S96x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GateUp.lean ====
abbrev S96x4096 : Shape := ⟨2, ![96, 4096]⟩
abbrev S96x1 : Shape := ⟨2, ![96, 1]⟩
abbrev S4096x12288 : Shape := ⟨2, ![4096, 12288]⟩
abbrev S12288 : Shape := ⟨1, ![12288]⟩
abbrev S1x12288 : Shape := ⟨2, ![1, 12288]⟩
abbrev S96x96x128 : Shape := ⟨3, ![96, 96, 128]⟩
abbrev S96x12288 : Shape := ⟨2, ![96, 12288]⟩
abbrev S4096x1024 : Shape := ⟨2, ![4096, 1024]⟩
abbrev S1x1024 : Shape := ⟨2, ![1, 1024]⟩
abbrev S96x8x128 : Shape := ⟨3, ![96, 8, 128]⟩
abbrev S96x1024 : Shape := ⟨2, ![96, 1024]⟩
abbrev S96x128 : Shape := ⟨2, ![96, 128]⟩
abbrev S96x1x128 : Shape := ⟨3, ![96, 1, 128]⟩
abbrev S96 : Shape := ⟨1, ![96]⟩

abbrev nBuf : Space → Nat
  | .hbm => 12
  | .vmem => 17
  | .smem => 0
  | _ => 0

abbrev bufTy : (tb : Table) → Fin (tcTables nBuf tb) → BufTy
  | .hbm, ⟨0, _⟩ => ⟨S96x4096, .fp8e4m3⟩
  | .hbm, ⟨1, _⟩ => ⟨S96x1, .f32⟩
  | .hbm, ⟨2, _⟩ => ⟨S4096x12288, .fp8e4m3⟩
  | .hbm, ⟨3, _⟩ => ⟨S12288, .f32⟩
  | .hbm, ⟨4, _⟩ => ⟨S4096x12288, .fp8e4m3⟩
  | .hbm, ⟨5, _⟩ => ⟨S12288, .f32⟩
  | .hbm, ⟨6, _⟩ => ⟨S1x12288, .f32⟩
  | .hbm, ⟨7, _⟩ => ⟨S1x12288, .f32⟩
  | .hbm, ⟨8, _⟩ => ⟨S96x96x128, .f32⟩
  | .hbm, ⟨9, _⟩ => ⟨S96x96x128, .f32⟩
  | .hbm, ⟨10, _⟩ => ⟨S96x12288, .fp8e4m3⟩
  | .hbm, ⟨11, _⟩ => ⟨S96x1, .f32⟩
  | .local _ .vmem, ⟨0, _⟩ => ⟨S96x4096, .fp8e4m3⟩
  | .local _ .vmem, ⟨1, _⟩ => ⟨S96x1, .f32⟩
  | .local _ .vmem, ⟨2, _⟩ => ⟨S4096x1024, .fp8e4m3⟩
  | .local _ .vmem, ⟨3, _⟩ => ⟨S4096x1024, .fp8e4m3⟩
  | .local _ .vmem, ⟨4, _⟩ => ⟨S1x1024, .f32⟩
  | .local _ .vmem, ⟨5, _⟩ => ⟨S1x1024, .f32⟩
  | .local _ .vmem, ⟨6, _⟩ => ⟨S4096x1024, .fp8e4m3⟩
  | .local _ .vmem, ⟨7, _⟩ => ⟨S4096x1024, .fp8e4m3⟩
  | .local _ .vmem, ⟨8, _⟩ => ⟨S1x1024, .f32⟩
  | .local _ .vmem, ⟨9, _⟩ => ⟨S1x1024, .f32⟩
  | .local _ .vmem, ⟨10, _⟩ => ⟨S96x8x128, .f32⟩
  | .local _ .vmem, ⟨11, _⟩ => ⟨S96x8x128, .f32⟩
  | .local _ .vmem, ⟨12, _⟩ => ⟨S96x8x128, .f32⟩
  | .local _ .vmem, ⟨13, _⟩ => ⟨S96x8x128, .f32⟩
  | .local _ .vmem, ⟨14, _⟩ => ⟨S96x12288, .fp8e4m3⟩
  | .local _ .vmem, ⟨15, _⟩ => ⟨S96x1, .f32⟩
  | .local _ .vmem, ⟨16, _⟩ => ⟨S96x12288, .f32⟩
  | _, _ => ⟨S96x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![12], ![false]⟩

def k0_mult1 (i : grid0.Coords) : BitVec 32 :=
  let arg0 : BitVec 32 := BitVec.ofNat 32 (i 0).val
  let c1024_i32 : BitVec 32 := 1024#32
  let v87 : BitVec 32 := Scalar.muli arg0 c1024_i32
  v87
def k0_off1 (i : grid0.Coords) : Fin 2 → Nat :=
  let c0_57 : Index := 0#32
  let arg0 : BitVec 32 := BitVec.ofNat 32 (i 0).val
  let c1024_i32 : BitVec 32 := 1024#32
  let v87 : BitVec 32 := Scalar.muli arg0 c1024_i32
  let v88 : BitVec 32 := v87
  let v89 : Index := Scalar.indexCast v88
  ![0, v89.toNat]
def k0_cond1 (i : grid0.Coords) : BitVec 1 :=
  let arg0 : BitVec 32 := BitVec.ofNat 32 (i 0).val
  let c11_i32 : BitVec 32 := 11#32
  let v93 : BitVec 1 := Scalar.cmpi .eq arg0 c11_i32
  let v94 : BitVec 32 := Scalar.extui v93
  let c0_i32 : BitVec 32 := 0#32
  let v95 : BitVec 1 := Scalar.cmpi .ne v94 c0_i32
  v95

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S96x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S96x12288 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S96x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefGateUpIdeal.lean ====
abbrev S96x4096 : Shape := ⟨2, ![96, 4096]⟩
abbrev S96x1 : Shape := ⟨2, ![96, 1]⟩
abbrev S4096x12288 : Shape := ⟨2, ![4096, 12288]⟩
abbrev S12288 : Shape := ⟨1, ![12288]⟩
abbrev S1x12288 : Shape := ⟨2, ![1, 12288]⟩
abbrev S96x96x128 : Shape := ⟨3, ![96, 96, 128]⟩
abbrev S96x12288 : Shape := ⟨2, ![96, 12288]⟩
abbrev S96 : Shape := ⟨1, ![96]⟩

abbrev nBuf : Space → Nat
  | .hbm => 12
  | .vmem => 10
  | .smem => 0
  | _ => 0

abbrev bufTy : (tb : Table) → Fin (tcTables nBuf tb) → BufTy
  | .hbm, ⟨0, _⟩ => ⟨S96x4096, .fp8e4m3⟩
  | .hbm, ⟨1, _⟩ => ⟨S96x1, .f32⟩
  | .hbm, ⟨2, _⟩ => ⟨S4096x12288, .fp8e4m3⟩
  | .hbm, ⟨3, _⟩ => ⟨S12288, .f32⟩
  | .hbm, ⟨4, _⟩ => ⟨S4096x12288, .fp8e4m3⟩
  | .hbm, ⟨5, _⟩ => ⟨S12288, .f32⟩
  | .hbm, ⟨6, _⟩ => ⟨S1x12288, .f32⟩
  | .hbm, ⟨7, _⟩ => ⟨S1x12288, .f32⟩
  | .hbm, ⟨8, _⟩ => ⟨S96x96x128, .f32⟩
  | .hbm, ⟨9, _⟩ => ⟨S96x96x128, .f32⟩
  | .hbm, ⟨10, _⟩ => ⟨S96x12288, .fp8e4m3⟩
  | .hbm, ⟨11, _⟩ => ⟨S96x1, .f32⟩
  | .local _ .vmem, ⟨0, _⟩ => ⟨S96x4096, .fp8e4m3⟩
  | .local _ .vmem, ⟨1, _⟩ => ⟨S96x1, .f32⟩
  | .local _ .vmem, ⟨2, _⟩ => ⟨S4096x12288, .fp8e4m3⟩
  | .local _ .vmem, ⟨3, _⟩ => ⟨S1x12288, .f32⟩
  | .local _ .vmem, ⟨4, _⟩ => ⟨S4096x12288, .fp8e4m3⟩
  | .local _ .vmem, ⟨5, _⟩ => ⟨S1x12288, .f32⟩
  | .local _ .vmem, ⟨6, _⟩ => ⟨S96x96x128, .f32⟩
  | .local _ .vmem, ⟨7, _⟩ => ⟨S96x96x128, .f32⟩
  | .local _ .vmem, ⟨8, _⟩ => ⟨S96x12288, .fp8e4m3⟩
  | .local _ .vmem, ⟨9, _⟩ => ⟨S96x1, .f32⟩
  | _, _ => ⟨S96x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S96x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x12288 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x96x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S96x12288 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S96x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Down.lean ====
abbrev S96x12288 : Shape := ⟨2, ![96, 12288]⟩
abbrev S96x1 : Shape := ⟨2, ![96, 1]⟩
abbrev S12288x4096 : Shape := ⟨2, ![12288, 4096]⟩
abbrev S4096 : Shape := ⟨1, ![4096]⟩
abbrev S96x4096 : Shape := ⟨2, ![96, 4096]⟩
abbrev S1x4096 : Shape := ⟨2, ![1, 4096]⟩
abbrev S96x32x128 : Shape := ⟨3, ![96, 32, 128]⟩
abbrev S12288x1024 : Shape := ⟨2, ![12288, 1024]⟩
abbrev S1x1024 : Shape := ⟨2, ![1, 1024]⟩
abbrev S96x1024 : Shape := ⟨2, ![96, 1024]⟩
abbrev S96x8x128 : Shape := ⟨3, ![96, 8, 128]⟩
abbrev S96x128 : Shape := ⟨2, ![96, 128]⟩
abbrev S96x1x128 : Shape := ⟨3, ![96, 1, 128]⟩

abbrev nBuf : Space → Nat
  | .hbm => 8
  | .vmem => 12
  | .smem => 0
  | _ => 0

abbrev bufTy : (tb : Table) → Fin (tcTables nBuf tb) → BufTy
  | .hbm, ⟨0, _⟩ => ⟨S96x12288, .fp8e4m3⟩
  | .hbm, ⟨1, _⟩ => ⟨S96x1, .f32⟩
  | .hbm, ⟨2, _⟩ => ⟨S12288x4096, .fp8e4m3⟩
  | .hbm, ⟨3, _⟩ => ⟨S4096, .f32⟩
  | .hbm, ⟨4, _⟩ => ⟨S96x4096, .f32⟩
  | .hbm, ⟨5, _⟩ => ⟨S1x4096, .f32⟩
  | .hbm, ⟨6, _⟩ => ⟨S96x32x128, .f32⟩
  | .hbm, ⟨7, _⟩ => ⟨S96x4096, .bf16⟩
  | .local _ .vmem, ⟨0, _⟩ => ⟨S96x12288, .fp8e4m3⟩
  | .local _ .vmem, ⟨1, _⟩ => ⟨S96x1, .f32⟩
  | .local _ .vmem, ⟨2, _⟩ => ⟨S12288x1024, .fp8e4m3⟩
  | .local _ .vmem, ⟨3, _⟩ => ⟨S12288x1024, .fp8e4m3⟩
  | .local _ .vmem, ⟨4, _⟩ => ⟨S1x1024, .f32⟩
  | .local _ .vmem, ⟨5, _⟩ => ⟨S1x1024, .f32⟩
  | .local _ .vmem, ⟨6, _⟩ => ⟨S96x1024, .f32⟩
  | .local _ .vmem, ⟨7, _⟩ => ⟨S96x1024, .f32⟩
  | .local _ .vmem, ⟨8, _⟩ => ⟨S96x8x128, .f32⟩
  | .local _ .vmem, ⟨9, _⟩ => ⟨S96x8x128, .f32⟩
  | .local _ .vmem, ⟨10, _⟩ => ⟨S96x1024, .bf16⟩
  | .local _ .vmem, ⟨11, _⟩ => ⟨S96x1024, .bf16⟩
  | _, _ => ⟨S96x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S12288x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefDownIdeal.lean ====
abbrev S96x12288 : Shape := ⟨2, ![96, 12288]⟩
abbrev S96x1 : Shape := ⟨2, ![96, 1]⟩
abbrev S12288x4096 : Shape := ⟨2, ![12288, 4096]⟩
abbrev S4096 : Shape := ⟨1, ![4096]⟩
abbrev S96x4096 : Shape := ⟨2, ![96, 4096]⟩
abbrev S1x4096 : Shape := ⟨2, ![1, 4096]⟩
abbrev S96x32x128 : Shape := ⟨3, ![96, 32, 128]⟩

abbrev nBuf : Space → Nat
  | .hbm => 8
  | .vmem => 7
  | .smem => 0
  | _ => 0

abbrev bufTy : (tb : Table) → Fin (tcTables nBuf tb) → BufTy
  | .hbm, ⟨0, _⟩ => ⟨S96x12288, .fp8e4m3⟩
  | .hbm, ⟨1, _⟩ => ⟨S96x1, .f32⟩
  | .hbm, ⟨2, _⟩ => ⟨S12288x4096, .fp8e4m3⟩
  | .hbm, ⟨3, _⟩ => ⟨S4096, .f32⟩
  | .hbm, ⟨4, _⟩ => ⟨S96x4096, .f32⟩
  | .hbm, ⟨5, _⟩ => ⟨S1x4096, .f32⟩
  | .hbm, ⟨6, _⟩ => ⟨S96x32x128, .f32⟩
  | .hbm, ⟨7, _⟩ => ⟨S96x4096, .bf16⟩
  | .local _ .vmem, ⟨0, _⟩ => ⟨S96x12288, .fp8e4m3⟩
  | .local _ .vmem, ⟨1, _⟩ => ⟨S96x1, .f32⟩
  | .local _ .vmem, ⟨2, _⟩ => ⟨S12288x4096, .fp8e4m3⟩
  | .local _ .vmem, ⟨3, _⟩ => ⟨S1x4096, .f32⟩
  | .local _ .vmem, ⟨4, _⟩ => ⟨S96x4096, .f32⟩
  | .local _ .vmem, ⟨5, _⟩ => ⟨S96x32x128, .f32⟩
  | .local _ .vmem, ⟨6, _⟩ => ⟨S96x4096, .bf16⟩
  | _, _ => ⟨S96x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S96x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.InProjFrame.lean ====
/- The frame of the input projection call: whatever the buffers hold, it ends, returns its arguments unchanged and leaves
   every counter at zero. Nothing is said of what it computes. -/
module

public import proofs.«01_k».proof.Proof.Gen.InProj.Frame
public import proofs.«01_k».proof.Proof.Gen.InProj.Skeleton
public import Idealize.ShloMosaic.Lib.Pipeline.ValueKit
public import Idealize.ShloMosaic.Lib.Pipeline.FrameBody
public import Idealize.ShloMosaic.Lib.Pointwise
public import Idealize.ShloMosaic.Lib.WritesUnit
public import Idealize.ShloMosaic.Lib.VecWindow
public import Idealize.ShloMosaic.Lib.Tactic
public import Idealize.ShloMosaic.Lib.WordCmp
public import Idealize.ShloMosaic.Lib.Claim

@[expose] public section

-- the arrays' long axes are looked at coordinate by coordinate
set_option maxRecDepth 16384

noncomputable section

namespace Cert.InProj.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch condition -/

/-- The condition of the body's branch, from the grid coordinates. -/
abbrev cond0_0 (i : grid0.Coords) : Prop := k0_cond1 i = 1#1
/-- It holds at the first point only. -/
theorem hcond0_0 : ∀ t : Fin cfg0.N, cond0_0 (grid0.coords t) ↔ t.val % 23 = 0 :=
  (fun t => by
    have ht : t.val < 23 := Nat.lt_of_lt_of_eq t.isLt N_0
    have e0 : (grid0.coords t 0).val = t.val / 1 % 23 := Pipeline.Grid.coords_val t 0 (by decide) rfl
    simp only [cond0_0, k0_cond1, e0]
    word_cmp
   : ∀ t : Fin grid0.N, cond0_0 (grid0.coords t) ↔ t.val % 23 = 0)

/-! ## The windows' staging memrefs -/

abbrev ms0_0 (t : Fin cfg0.N) : Memref sig .tc .vmem S96x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x1 .f32 := win0_7.stage (cfg0.slots t 7)
abbrev hs0_7 (t : Fin cfg0.N) : (ms0_7 t).IsWhole := hstage0_7 ((cfg0.slots t 7).cast nbuf0_7)

set_option maxHeartbeats 1000000 in
/-- The body from any contents, where the condition holds: it ends and gives every buffer back. -/
theorem kernelRun0_A (c : Dev nD) (i : grid0.Coords) (arg1 : Memref sig .tc .vmem S96x4096 .bf16) (harg1 : arg1.IsWhole) (arg2 : Memref sig .tc .vmem S1x4096 .f32) (harg2 : arg2.IsWhole) (arg3 : Memref sig .tc .vmem S1024x4096 .fp8e4m3) (harg3 : arg3.IsWhole) (arg4 : Memref sig .tc .vmem S1x1024 .f32) (harg4 : arg4.IsWhole) (arg5 : Memref sig .tc .vmem S96x1x1024 .f32) (harg5 : arg5.IsWhole) (arg6 : Memref sig .tc .vmem S96x8x128 .f32) (harg6 : arg6.IsWhole) (arg7 : Memref sig .tc .vmem S96x4096 .fp8e4m3) (harg7 : arg7.IsWhole) (arg8 : Memref sig .tc .vmem S96x1 .f32) (harg8 : arg8.IsWhole) (hc0 : cond0_0 i) :
      ∀ (E : Set ℕ) (K : PUnit → sProp 𝕄),
        iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_inproj i arg1 harg1 arg2 harg2 arg3 harg3 arg4 harg4 arg5 harg5 arg6 harg6 arg7 harg7 arg8 harg8) K := by
    intro E K
    simp only [cc0_inproj_eq_skeleton]; unfold cc0_inproj_skel
    simp only [k0_part1_eq_skeleton]
    unfold owns
    iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
    sl_exec (disch := first | sl_exact hc0)
    sl_step
    iapply Hk
    isplitl [H0]
    · iexists _; iexists _; isplitr; swap; · iexact H0
      ipureintro; rfl
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    iexists _; iexists _; isplitr; swap; · iexact H7
    ipureintro; rfl

set_option maxHeartbeats 1000000 in
/-- The body from any contents, where it does not: it ends and gives every buffer back. -/
theorem kernelRun0_B (c : Dev nD) (i : grid0.Coords) (arg1 : Memref sig .tc .vmem S96x4096 .bf16) (harg1 : arg1.IsWhole) (arg2 : Memref sig .tc .vmem S1x4096 .f32) (harg2 : arg2.IsWhole) (arg3 : Memref sig .tc .vmem S1024x4096 .fp8e4m3) (harg3 : arg3.IsWhole) (arg4 : Memref sig .tc .vmem S1x1024 .f32) (harg4 : arg4.IsWhole) (arg5 : Memref sig .tc .vmem S96x1x1024 .f32) (harg5 : arg5.IsWhole) (arg6 : Memref sig .tc .vmem S96x8x128 .f32) (harg6 : arg6.IsWhole) (arg7 : Memref sig .tc .vmem S96x4096 .fp8e4m3) (harg7 : arg7.IsWhole) (arg8 : Memref sig .tc .vmem S96x1 .f32) (harg8 : arg8.IsWhole) (hc0 : ¬cond0_0 i) :
      ∀ (E : Set ℕ) (K : PUnit → sProp 𝕄),
        iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_inproj i arg1 harg1 arg2 harg2 arg3 harg3 arg4 harg4 arg5 harg5 arg6 harg6 arg7 harg7 arg8 harg8) K := by
    intro E K
    simp only [cc0_inproj_eq_skeleton]; unfold cc0_inproj_skel
    simp only [k0_part1_eq_skeleton]
    unfold owns
    iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
    sl_exec (disch := first | sl_exact hc0)
    sl_step
    iapply Hk
    isplitl [H0]
    · iexists _; iexists _; isplitr; swap; · iexact H0
      ipureintro; rfl
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    iexists _; iexists _; isplitr; swap; · iexact H7
    ipureintro; rfl

/-! ## The proof data: nothing named -/

/-- Every window is forgotten: nothing of what passes through it is named. -/
def forgets0 : Fin 8 → Bool := fun _ => true

/-- The proof data: the arrays as the region finds them, the buffers' contents unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  by_cases h0 : t.val % 23 = 0
  · iintro ⟨Hg, Ho, H0, H1, H2, H3, H4, H5, H6, H7⟩
    iapply ((kernelRun0_A c (grid0.coords t) _ _ _ _ _ _ _ _ _ _ _ _ _ _ _ _ ((hcond0_0 t).mpr h0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨Hg, Ho, H0, H1, H2, H3, H4, H5, H6, H7⟩
    iapply ((kernelRun0_B c (grid0.coords t) _ _ _ _ _ _ _ _ _ _ _ _ _ _ _ _ (fun h => h0 ((hcond0_0 t).mp h))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
/-- Every run ends, each array with contents the proof data allow, every other buffer as the region found it, and every
    semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The frame: the argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main_quiescent m ρ)

end Cert.InProj.Gen.Whole

end
-- ==== Proof.InProjRun.lean ====
/- The body of the input projection call over the reals: what it leaves in each buffer, at the first point and at the others. -/
module

public import proofs.«01_k».proof.Proof.Gen.InProjIdeal.Frame
public import proofs.«01_k».proof.Proof.Gen.InProjIdeal.Skeleton
public import Idealize.ShloMosaic.Lib.Pipeline.ValueKit
public import Idealize.ShloMosaic.Lib.Pipeline.FrameBody
public import Idealize.ShloMosaic.Lib.Pointwise
public import Idealize.ShloMosaic.Lib.WritesUnit
public import Idealize.ShloMosaic.Lib.VecWindow
public import Idealize.ShloMosaic.Lib.Tactic
public import Idealize.ShloMosaic.Lib.WordCmp
public import Idealize.ShloMosaic.Lib.Claim

@[expose] public section

-- the arrays' long axes are looked at coordinate by coordinate
set_option maxRecDepth 16384

noncomputable section

namespace Cert.InProjIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The body's branch condition -/

/-- The condition of the body's branch, from the grid coordinates. -/
abbrev cond0_0 (i : grid0.Coords) : Prop := k0_cond1 i = 1#1
/-- It holds at the first point only. -/
theorem hcond0_0 : ∀ t : Fin cfg0.N, cond0_0 (grid0.coords t) ↔ t.val % 23 = 0 :=
  (fun t => by
    have ht : t.val < 23 := Nat.lt_of_lt_of_eq t.isLt N_0
    have e0 : (grid0.coords t 0).val = t.val / 1 % 23 := Pipeline.Grid.coords_val t 0 (by decide) rfl
    simp only [cond0_0, k0_cond1, e0]
    word_cmp
   : ∀ t : Fin grid0.N, cond0_0 (grid0.coords t) ↔ t.val % 23 = 0)

/-! ## The windows' staging memrefs -/

abbrev ms0_0 (t : Fin cfg0.N) : Memref sig .tc .vmem S96x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x1 .f32 := win0_7.stage (cfg0.slots t 7)
abbrev hs0_7 (t : Fin cfg0.N) : (ms0_7 t).IsWhole := hstage0_7 ((cfg0.slots t 7).cast nbuf0_7)

/-! ## The body -/

/-- A load of a whole buffer that holds `x` reads `x`. -/
theorem rd {s : Shape} {e : EltTy} (a : Memref sig .tc .vmem s e) (ha : a.IsWhole) (x : Vec Ideal s e) {off : Fin s.rank → ℕ}
    (inb : ∀ k, off k + s.size k ≤ s.size k) :
    View.readAt (Elt Ideal) a.view (Rect.unit off s.size inb).toLoadRect (ha.unread x) = x :=
  (View.readAt_full _ _ inb).trans (ha.read_unread _)

/-- A load of a whole buffer just stored whole reads what was stored. -/
theorem rdw {s : Shape} {e : EltTy} (a : Memref sig .tc .vmem s e) (f : a.view.ty.Contents (Elt Ideal)) (x : Vec Ideal s e) {off : Fin s.rank → ℕ}
    (inb inb' : ∀ k, off k + s.size k ≤ s.size k) :
    View.readAt (Elt Ideal) a.view (Rect.unit off s.size inb).toLoadRect (a.view.writes (Elt Ideal) f [⟨Rect.unit off s.size inb', x⟩]) = x :=
  (View.readAt_full _ _ inb).trans (View.read_writes_full a.view f inb' x [])

theorem pay10_congr {a a' : Vec Ideal S96x4096 .fp8e4m3} {b b' : Vec Ideal S1024x4096 .fp8e4m3} {c c' : Vec Ideal S96x1 .f32}
    {d d' : Vec Ideal S1x1024 .f32} (ha : a = a') (hb : b = b') (hc : c = c') (hd : d = d') :
    k0_pay10 a b c d = k0_pay10 a' b' c' d' := by rw [ha, hb, hc, hd]

set_option maxHeartbeats 1000000 in
/-- The body at the first point, which stores the codes and scales of the normalised rows. -/
theorem kernelRun0_A (c : Dev nD) (i : grid0.Coords) (arg1 : Memref sig .tc .vmem S96x4096 .bf16) (harg1 : arg1.IsWhole) (arg2 : Memref sig .tc .vmem S1x4096 .f32) (harg2 : arg2.IsWhole) (arg3 : Memref sig .tc .vmem S1024x4096 .fp8e4m3) (harg3 : arg3.IsWhole) (arg4 : Memref sig .tc .vmem S1x1024 .f32) (harg4 : arg4.IsWhole) (arg5 : Memref sig .tc .vmem S96x1x1024 .f32) (harg5 : arg5.IsWhole) (arg6 : Memref sig .tc .vmem S96x8x128 .f32) (harg6 : arg6.IsWhole) (arg7 : Memref sig .tc .vmem S96x4096 .fp8e4m3) (harg7 : arg7.IsWhole) (arg8 : Memref sig .tc .vmem S96x1 .f32) (harg8 : arg8.IsWhole) (hc0 : cond0_0 i)
    (x0 : Vec Ideal S96x4096 .bf16) (x1 : Vec Ideal S1x4096 .f32) (x2 : Vec Ideal S1024x4096 .fp8e4m3) (x3 : Vec Ideal S1x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay10 (F := Ideal) (k0_pay8 (F := Ideal) x0 x1) x2 (k0_pay7 (F := Ideal) x0 x1) x3) ∗ (∃ d, owns (c : Thread nD τ) arg6 fullShare d) ∗ owns (c : Thread nD τ) arg7 fullShare (k0_pay8 (F := Ideal) x0 x1) ∗ owns (c : Thread nD τ) arg8 fullShare (k0_pay7 (F := Ideal) x0 x1)) -∗ K ⟨⟩))
          ⊢ wp frame (wpE (defs₀ (F := Ideal)) Variants.none c none) E (cc0_inproj i arg1 harg1 arg2 harg2 arg3 harg3 arg4 harg4 arg5 harg5 arg6 harg6 arg7 harg7 arg8 harg8) K := by
    intro E K
    simp only [cc0_inproj_eq_skeleton]; unfold cc0_inproj_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    have h8 : k0_pay8 (View.readAt (Elt Ideal) arg1.view (Rect.unit ![0, 0] S96x4096.size inb_S96x4096_S96x4096_0_0).toLoadRect (harg1.unread x0))
        (View.readAt (Elt Ideal) arg2.view (Rect.unit ![0, 0] S1x4096.size inb_S1x4096_S1x4096_0_0).toLoadRect (harg2.unread x1)) = k0_pay8 x0 x1 :=
      congrArg₂ (k0_pay8 (F := Ideal)) (rd arg1 harg1 x0 _) (rd arg2 harg2 x1 _)
    have h7 : k0_pay7 (View.readAt (Elt Ideal) arg1.view (Rect.unit ![0, 0] S96x4096.size inb_S96x4096_S96x4096_0_0).toLoadRect (harg1.unread x0))
        (View.readAt (Elt Ideal) arg2.view (Rect.unit ![0, 0] S1x4096.size inb_S1x4096_S1x4096_0_0).toLoadRect (harg2.unread x1)) = k0_pay7 x0 x1 :=
      congrArg₂ (k0_pay7 (F := Ideal)) (rd arg1 harg1 x0 _) (rd arg2 harg2 x1 _)
    isplitl [H4]
    · iexists _; isplitr; swap; · iexact H4
      ipureintro
      exact (View.read_writes_full (s := S96x1x1024) arg5.view _ inb_S96x1x1024_S96x1x1024_0_0_0 _ []).trans
        (pay10_congr ((rdw arg7 _ _ _ _).trans h8) (rd arg3 harg3 x2 _) ((rdw arg8 _ _ _ _).trans h7) (rd arg4 harg4 x3 _))
    isplitl [H5]
    · iexists _; iexists _; isplitr; swap; · iexact H5
      ipureintro; rfl
    isplitl [H6]
    · iexists _; isplitr; swap; · iexact H6
      ipureintro
      exact (View.read_writes_full (s := S96x4096) arg7.view _ inb_S96x4096_S96x4096_0_0 _ []).trans h8
    iexists _; isplitr; swap; · iexact H7
    ipureintro
    exact (View.read_writes_full (s := S96x1) arg8.view _ inb_S96x1_S96x1_0_0 _ []).trans h7

set_option maxHeartbeats 1000000 in
/-- The body at the other points, which find the codes and scales stored. -/
theorem kernelRun0_B (c : Dev nD) (i : grid0.Coords) (arg1 : Memref sig .tc .vmem S96x4096 .bf16) (harg1 : arg1.IsWhole) (arg2 : Memref sig .tc .vmem S1x4096 .f32) (harg2 : arg2.IsWhole) (arg3 : Memref sig .tc .vmem S1024x4096 .fp8e4m3) (harg3 : arg3.IsWhole) (arg4 : Memref sig .tc .vmem S1x1024 .f32) (harg4 : arg4.IsWhole) (arg5 : Memref sig .tc .vmem S96x1x1024 .f32) (harg5 : arg5.IsWhole) (arg6 : Memref sig .tc .vmem S96x8x128 .f32) (harg6 : arg6.IsWhole) (arg7 : Memref sig .tc .vmem S96x4096 .fp8e4m3) (harg7 : arg7.IsWhole) (arg8 : Memref sig .tc .vmem S96x1 .f32) (harg8 : arg8.IsWhole) (hc0 : ¬cond0_0 i)
    (x0 : Vec Ideal S96x4096 .bf16) (x1 : Vec Ideal S1x4096 .f32) (x2 : Vec Ideal S1024x4096 .fp8e4m3) (x3 : Vec Ideal S1x1024 .f32) (x6 : Vec Ideal S96x4096 .fp8e4m3) (x7 : Vec Ideal S96x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare x6 ∗ owns (c : Thread nD τ) arg8 fullShare x7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay10 (F := Ideal) x6 x2 x7 x3) ∗ (∃ d, owns (c : Thread nD τ) arg6 fullShare d) ∗ owns (c : Thread nD τ) arg7 fullShare x6 ∗ owns (c : Thread nD τ) arg8 fullShare x7) -∗ K ⟨⟩))
          ⊢ wp frame (wpE (defs₀ (F := Ideal)) Variants.none c none) E (cc0_inproj i arg1 harg1 arg2 harg2 arg3 harg3 arg4 harg4 arg5 harg5 arg6 harg6 arg7 harg7 arg8 harg8) K := by
    intro E K
    simp only [cc0_inproj_eq_skeleton]; unfold cc0_inproj_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      exact (View.read_writes_full (s := S96x1x1024) arg5.view _ inb_S96x1x1024_S96x1x1024_0_0_0 _ []).trans
        (pay10_congr (rd arg7 harg7 x6 _) (rd arg3 harg3 x2 _) (rd arg8 harg8 x7 _) (rd arg4 harg4 x3 _))
    isplitl [H5]
    · iexists _; iexists _; isplitr; swap; · iexact H5
      ipureintro; rfl
    isplitl [H6]
    · iexists _; isplitr; · ipureintro; exact harg7.read_unread _
      iexact H6
    iexists _; isplitr; · ipureintro; exact harg8.read_unread _
    iexact H7

end Cert.InProjIdeal.Gen.Whole

end
-- ==== Proof.InProjMain.lean ====
/- The whole run of the input projection call over the reals: the codes and scales stored at the first point and kept, and
   the tile of the product each point stores. -/
module

public import proofs.«01_k».proof.Proof.Gen.InProjIdeal.Frame
public import proofs.«01_k».proof.Proof.Gen.InProjIdeal.Skeleton
public import proofs.«01_k».proof.Proof.InProjRun
public import Idealize.ShloMosaic.Lib.Pipeline.ValueKit
public import Idealize.ShloMosaic.Lib.Pipeline.FrameBody
public import Idealize.ShloMosaic.Lib.Pointwise
public import Idealize.ShloMosaic.Lib.WritesUnit
public import Idealize.ShloMosaic.Lib.VecWindow
public import Idealize.ShloMosaic.Lib.Tactic
public import Idealize.ShloMosaic.Lib.WordCmp
public import Idealize.ShloMosaic.Lib.Claim

@[expose] public section

-- the arrays' long axes are looked at coordinate by coordinate
set_option maxRecDepth 16384

noncomputable section

namespace Cert.InProjIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the points compute -/

/-- The first point. -/
def t₀ : Fin cfg0.N := ⟨0, by decide⟩

/-- The codes of the normalised rows, which the first point stores. -/
def cds (c : Dev nD) : Vec Ideal S96x4096 .fp8e4m3 := k0_pay8 (F := Ideal) (iblk m c 0 t₀) (iblk m c 1 t₀)

/-- Their scales. -/
def scs (c : Dev nD) : Vec Ideal S96x1 .f32 := k0_pay7 (F := Ideal) (iblk m c 0 t₀) (iblk m c 1 t₀)

/-- Point `t`'s weight block in its buffer, the rows past the array's end at zero. -/
def wb (c : Dev nD) (t : Fin cfg0.N) : Vec Ideal S1024x4096 .fp8e4m3 :=
  (cfg0.win 2).fill (cfg0.grid.coords t) (fun _ => (0 : EReal)) (iblk m c 2 t)

/-- Point `t`'s weight scales in their buffer, those past the array's end at zero. -/
def sb (c : Dev nD) (t : Fin cfg0.N) : Vec Ideal S1x1024 .f32 :=
  (cfg0.win 3).fill (cfg0.grid.coords t) (fun _ => (0 : EReal)) (iblk m c 3 t)

/-- Point `t`'s tile of the product. -/
def tile (c : Dev nD) (t : Fin cfg0.N) : Vec Ideal S96x1x1024 .f32 :=
  k0_pay10 (F := Ideal) (cds m c) (wb m c t) (scs m c) (sb m c t)

/-- Element (r, k) of a tile. -/
theorem pay10_apply (a : Vec Ideal S96x4096 .fp8e4m3) (w : Vec Ideal S1024x4096 .fp8e4m3) (s : Vec Ideal S96x1 .f32) (ws : Vec Ideal S1x1024 .f32)
    (r : Fin 96) (u : Fin 1) (k : Fin 1024) :
    k0_pay10 (F := Ideal) a w s ws (ix3 r u k) = ((∑ j : Fin 4096, a (ix2 r j) * w (ix2 k j)) * s (ix2 r 0)) * ws (ix2 0 k) := by
  pointwise [k0_pay10, k0_pay9]

/-- A column of a tile depends on its own row of the weight block and its own weight scale. -/
theorem pay10_local (a : Vec Ideal S96x4096 .fp8e4m3) (w w' : Vec Ideal S1024x4096 .fp8e4m3) (s : Vec Ideal S96x1 .f32) (ws ws' : Vec Ideal S1x1024 .f32)
    (r : Fin 96) (u : Fin 1) (k : Fin 1024) (hw : ∀ j : Fin 4096, w (ix2 k j) = w' (ix2 k j)) (hs : ws (ix2 0 k) = ws' (ix2 0 k)) :
    k0_pay10 (F := Ideal) a w s ws (ix3 r u k) = k0_pay10 (F := Ideal) a w' s ws' (ix3 r u k) := by
  rw [pay10_apply, pay10_apply]
  simp only [hw, hs]

/-- How much of each block lies in the array: the last point's tile ends with the array. -/
theorem xsizes : ∀ t : Fin cfg0.N, (cfg0.win 2).xsize (cfg0.grid.coords t) = ![min 1024 (23264 - 1024 * t.val), 4096]
    ∧ (cfg0.win 3).xsize (cfg0.grid.coords t) = ![1, min 1024 (23264 - 1024 * t.val)]
    ∧ (cfg0.win 4).xsize (cfg0.grid.coords t) = ![96, 1, min 1024 (23264 - 1024 * t.val)] :=
  (by decide +kernel : ∀ t : Fin grid0.N, _)

/-- Two fillings with one block agree where the block lies. -/
theorem fill_agree {G : Pipeline.Grid} (w : Window sig G) {α : Type} (i : G.Coords) (d d' : w.block.Idx → α) (g : (w.xblock i).Idx → α)
    (j : w.block.Idx) (h : ∀ a, (j a).val < w.xsize i a) : w.fill i d g j = w.fill i d' g j := by
  unfold Window.fill
  rw [dif_pos ((w.moved_iff i j).mpr h), dif_pos ((w.moved_iff i j).mpr h)]

/-- The part of a tile that lies in the array does not depend on what the buffers hold past the array's end. -/
theorem tile_cut (c : Dev nD) (t : Fin cfg0.N) (d2 : Vec Ideal S1024x4096 .fp8e4m3) (d3 : Vec Ideal S1x1024 .f32) :
    (cfg0.win 4).cut (cfg0.grid.coords t) (k0_pay10 (F := Ideal) (cds m c) ((cfg0.win 2).fill (cfg0.grid.coords t) d2 (iblk m c 2 t)) (scs m c)
      ((cfg0.win 3).fill (cfg0.grid.coords t) d3 (iblk m c 3 t)))
    = (cfg0.win 4).cut (cfg0.grid.coords t) (tile m c t) := by
  funext y
  obtain ⟨e2, e3, e4⟩ := xsizes t
  have hy : (y 2).val < min 1024 (23264 - 1024 * t.val) := by
    have h := (y 2).isLt
    have e : (cfg0.win 4).xsize (cfg0.grid.coords t) 2 = min 1024 (23264 - 1024 * t.val) := congrFun e4 2
    exact lt_of_lt_of_eq h e
  have h0 : (y 0).val < 96 := lt_of_lt_of_eq (y 0).isLt (congrFun e4 0)
  have h1 : (y 1).val < 1 := lt_of_lt_of_eq (y 1).isLt (congrFun e4 1)
  have e : (cfg0.win 4).xinj (cfg0.grid.coords t) y = ix3 (⟨(y 0).val, h0⟩ : Fin 96) (⟨(y 1).val, h1⟩ : Fin 1) (⟨(y 2).val, by omega⟩ : Fin 1024) := by
    funext a; fin_cases a <;> rfl
  show k0_pay10 (F := Ideal) _ _ _ _ ((cfg0.win 4).xinj (cfg0.grid.coords t) y) = tile m c t ((cfg0.win 4).xinj (cfg0.grid.coords t) y)
  rw [e]
  unfold tile wb sb
  refine pay10_local _ _ _ _ _ _ _ _ _ (fun j => fill_agree _ _ _ _ _ _ fun a => ?_) (fill_agree _ _ _ _ _ _ fun a => ?_)
  · rw [e2]
    fin_cases a
    · exact hy
    · exact j.isLt
  · rw [e3]
    fin_cases a
    · exact Nat.zero_lt_one
    · exact hy

/-! ## The pipeline's proof data -/

/-- The second result of the call, a copy of the first in groups, is not claimed and nothing of it is named. -/
def forgets0 : Fin 8 → Bool := fun w => w.val == 5

/-- The proof data: after the body at point `t` each input's buffer at its block, the product's tile, and the codes and
    scales the first point stored. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wb m c t
    | ⟨3, _⟩ => sb m c t
    | ⟨4, _⟩ => tile m c t
    | ⟨5, h⟩ => Pipeline.Dat.unnamed (cfg := cfg0) ⟨5, h⟩ t
    | ⟨6, _⟩ => cds m c
    | ⟨7, _⟩ => scs m c
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wb m c t := by dsimp only [dats]
theorem after0_3 (c : Dev nD) (t : Fin cfg0.N) : (dats m 0 c).after 3 t = sb m c t := by dsimp only [dats]
theorem after0_4 (c : Dev nD) (t : Fin cfg0.N) : (dats m 0 c).after 4 t = tile m c t := by dsimp only [dats]
theorem after0_6 (c : Dev nD) (t : Fin cfg0.N) : (dats m 0 c).after 6 t = cds m c := by dsimp only [dats]
theorem after0_7 (c : Dev nD) (t : Fin cfg0.N) : (dats m 0 c).after 7 t = scs m c := by dsimp only [dats]

/-- What each input's buffer holds when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = (cfg0.win 2).fill (cfg0.grid.coords t) d (iblk m c 2 t) := by
  unfold Dat.before
  rw [if_pos (fetch0_2 t)]
  unfold Dat.fetched Dat.blockOf iblk
  rw [A_eq]
theorem before0_3 (c : Dev nD) (t : Fin cfg0.N) (d) : (dats m 0 c).before 3 t d = (cfg0.win 3).fill (cfg0.grid.coords t) d (iblk m c 3 t) := by
  unfold Dat.before
  rw [if_pos (fetch0_3 t)]
  unfold Dat.fetched Dat.blockOf iblk
  rw [A_eq]

/-- The first point writes both buffers; the others touch neither. -/
theorem idle6_first (t : Fin cfg0.N) (h0 : t.val % 23 = 0) : cfg0.idle 6 (cfg0.grid.coords t) = false := by
  show (!(k0_cond1 (grid0.coords t) == 1#1)) = false
  rw [show k0_cond1 (grid0.coords t) = 1#1 from (hcond0_0 t).mpr h0]; rfl
theorem idle7_first (t : Fin cfg0.N) (h0 : t.val % 23 = 0) : cfg0.idle 7 (cfg0.grid.coords t) = false := by
  show (!(k0_cond1 (grid0.coords t) == 1#1)) = false
  rw [show k0_cond1 (grid0.coords t) = 1#1 from (hcond0_0 t).mpr h0]; rfl
theorem idle6_later (t : Fin cfg0.N) (h0 : ¬t.val % 23 = 0) : cfg0.idle 6 (cfg0.grid.coords t) = true := by
  show (!(k0_cond1 (grid0.coords t) == 1#1)) = true
  rw [beq_false_of_ne (fun h => h0 ((hcond0_0 t).mp h))]; rfl
theorem idle7_later (t : Fin cfg0.N) (h0 : ¬t.val % 23 = 0) : cfg0.idle 7 (cfg0.grid.coords t) = true := by
  show (!(k0_cond1 (grid0.coords t) == 1#1)) = true
  rw [beq_false_of_ne (fun h => h0 ((hcond0_0 t).mp h))]; rfl

/-- After the first point the codes are found where it left them. -/
theorem before0_6 (c : Dev nD) (d) : ∀ (n : ℕ) (h : n < cfg0.N), n ≠ 0 → (dats m 0 c).before 6 ⟨n, h⟩ d = cds m c := by
  intro n
  induction n with
  | zero => exact fun h h0 => absurd rfl h0
  | succ n ih =>
    intro h _
    have hN : n + 1 < 23 := lt_of_lt_of_eq h N_0
    rw [(dats m 0 c).before_of_pos 6 ⟨n + 1, h⟩ (Nat.succ_ne_zero n) rfl d]
    have hfl : (cfg0.win 6).flush ⟨n, Nat.lt_of_succ_lt h⟩ = false := by
      rcases hf : (cfg0.win 6).flush ⟨n, Nat.lt_of_succ_lt h⟩
      · rfl
      · exact absurd ((flush0_6 _).mp hf) (by show ¬n % 23 = 22; omega)
    show (if (cfg0.win 6).flush ⟨n, Nat.lt_of_succ_lt h⟩ then d else (dats m 0 c).left 6 ⟨n, Nat.lt_of_succ_lt h⟩ d) = _
    rw [hfl, if_neg Bool.false_ne_true]
    unfold Dat.left
    by_cases hn : n = 0
    · rw [idle6_first _ (by show n % 23 = 0; omega)]
      exact after0_6 m c _
    · rw [idle6_later _ (by show ¬n % 23 = 0; omega)]
      exact ih (Nat.lt_of_succ_lt h) hn

/-- After the first point the scales are found where it left them. -/
theorem before0_7 (c : Dev nD) (d) : ∀ (n : ℕ) (h : n < cfg0.N), n ≠ 0 → (dats m 0 c).before 7 ⟨n, h⟩ d = scs m c := by
  intro n
  induction n with
  | zero => exact fun h h0 => absurd rfl h0
  | succ n ih =>
    intro h _
    have hN : n + 1 < 23 := lt_of_lt_of_eq h N_0
    rw [(dats m 0 c).before_of_pos 7 ⟨n + 1, h⟩ (Nat.succ_ne_zero n) rfl d]
    have hfl : (cfg0.win 7).flush ⟨n, Nat.lt_of_succ_lt h⟩ = false := by
      rcases hf : (cfg0.win 7).flush ⟨n, Nat.lt_of_succ_lt h⟩
      · rfl
      · exact absurd ((flush0_7 _).mp hf) (by show ¬n % 23 = 22; omega)
    show (if (cfg0.win 7).flush ⟨n, Nat.lt_of_succ_lt h⟩ then d else (dats m 0 c).left 7 ⟨n, Nat.lt_of_succ_lt h⟩ d) = _
    rw [hfl, if_neg Bool.false_ne_true]
    unfold Dat.left
    by_cases hn : n = 0
    · rw [idle7_first _ (by show n % 23 = 0; omega)]
      exact after0_7 m c _
    · rw [idle7_later _ (by show ¬n % 23 = 0; omega)]
      exact ih (Nat.lt_of_succ_lt h) hn

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare ((cfg0.win 2).fill (cfg0.grid.coords t) d ((cfg0.win 2).cut (cfg0.grid.coords t) ((dats m 0 c).after 2 t))))
    ∗ (∃ d, owns (c : Thread nD τ) (ms0_3 t) fullShare ((cfg0.win 3).fill (cfg0.grid.coords t) d ((cfg0.win 3).cut (cfg0.grid.coords t) ((dats m 0 c).after 3 t))))
    ∗ (∃ d, owns (c : Thread nD τ) (ms0_4 t) fullShare ((cfg0.win 4).fill (cfg0.grid.coords t) d ((cfg0.win 4).cut (cfg0.grid.coords t) ((dats m 0 c).after 4 t))))
    ∗ (∃ d, owns (c : Thread nD τ) (ms0_5 t) fullShare d)
    ∗ (dats m 0 c).leavesExact 6 t
    ∗ (dats m 0 c).leavesExact 7 t)

set_option maxHeartbeats 1600000 in
/-- The body at any point: the first stores the codes and scales, the others find them; each stores its tile, of which
    the part in the array is named. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, after0_0, after0_1, after0_2, after0_3, after0_4]
  rw [show (dats m 0 c).Φ t.succ = (dats m 0 c).Φ t.castSucc from rfl,
    show (dats m 0 c).owesAt () t.succ = (dats m 0 c).owesAt () t.castSucc from rfl]
  have hN : t.val < 23 := lt_of_lt_of_eq t.isLt (show cfg0.N = 23 from N_0)
  have hw : (cfg0.win 2).cut (cfg0.grid.coords t) (wb m c t) = iblk m c 2 t := (cfg0.win 2).cut_fill _ _ _
  have hs : (cfg0.win 3).cut (cfg0.grid.coords t) (sb m c t) = iblk m c 3 t := (cfg0.win 3).cut_fill _ _ _
  rw [hw, hs]
  by_cases h0 : t.val % 23 = 0
  · rw [show (dats m 0 c).leavesExact 6 t = owns (c : Thread nD τ) (ms0_6 t) fullShare ((dats m 0 c).after 6 t) from by
      unfold Dat.leavesExact; rw [idle6_first t h0], after0_6]
    rw [show (dats m 0 c).leavesExact 7 t = owns (c : Thread nD τ) (ms0_7 t) fullShare ((dats m 0 c).after 7 t) from by
      unfold Dat.leavesExact; rw [idle7_first t h0], after0_7]
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩⟩
    have ec : k0_pay8 (F := Ideal) (iblk m c 0 t) (iblk m c 1 t) = cds m c := by
      rw [show t = t₀ from Fin.ext (by show t.val = 0; omega)]; rfl
    have es : k0_pay7 (F := Ideal) (iblk m c 0 t) (iblk m c 1 t) = scs m c := by
      rw [show t = t₀ from Fin.ext (by show t.val = 0; omega)]; rfl
    iapply ((kernelRun0_A c (grid0.coords t) _ _ _ _ _ _ _ _ _ _ _ _ _ _ _ _ ((hcond0_0 t).mpr h0) (iblk m c 0 t) (iblk m c 1 t) ((cfg0.win 2).fill (cfg0.grid.coords t) d2 (iblk m c 2 t)) ((cfg0.win 3).fill (cfg0.grid.coords t) d3 (iblk m c 3 t))) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    rw [ec, es]
    isplitl [Hg]; · iexact Hg
    isplitl [Ho]; · iexact Ho
    isplitl [H0]; · iexact H0
    isplitl [H1]; · iexact H1
    isplitl [H2]; · iexists d2; iexact H2
    isplitl [H3]; · iexists d3; iexact H3
    isplitl [H4]
    · iexists (k0_pay10 (F := Ideal) (cds m c) ((cfg0.win 2).fill (cfg0.grid.coords t) d2 (iblk m c 2 t)) (scs m c)
        ((cfg0.win 3).fill (cfg0.grid.coords t) d3 (iblk m c 3 t)))
      rw [(cfg0.win 4).fill_congr_cut (cfg0.grid.coords t) (tile_cut m c t d2 d3)]
      iexact H4
    isplitl [H5]; · iexact H5
    isplitl [H6]; · iexact H6
    iexact H7
  · have h6 : owns (c : Thread nD τ) (ms0_6 t) fullShare (cds m c) ⊢ ((dats m 0 c).leavesExact 6 t : sProp 𝕄) := by
      unfold Dat.leavesExact
      rw [idle6_later t h0]
      rcases (cfg0.win 6).flush t
      · show _ ⊢ iprop(∃ d, owns (c : Thread nD τ) (ms0_6 t) fullShare ((dats m 0 c).before 6 t d))
        iintro H
        iexists (cds m c)
        rw [show (dats m 0 c).before 6 t (cds m c) = cds m c from before0_6 m c _ t.val t.isLt (by omega)]
        iexact H
      · show _ ⊢ owns (c : Thread nD τ) (ms0_6 t) fullShare ((dats m 0 c).after 6 t)
        rw [after0_6]
    have h7 : owns (c : Thread nD τ) (ms0_7 t) fullShare (scs m c) ⊢ ((dats m 0 c).leavesExact 7 t : sProp 𝕄) := by
      unfold Dat.leavesExact
      rw [idle7_later t h0]
      rcases (cfg0.win 7).flush t
      · show _ ⊢ iprop(∃ d, owns (c : Thread nD τ) (ms0_7 t) fullShare ((dats m 0 c).before 7 t d))
        iintro H
        iexists (scs m c)
        rw [show (dats m 0 c).before 7 t (scs m c) = scs m c from before0_7 m c _ t.val t.isLt (by omega)]
        iexact H
      · show _ ⊢ owns (c : Thread nD τ) (ms0_7 t) fullShare ((dats m 0 c).after 7 t)
        rw [after0_7]
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩⟩
    rw [show (dats m 0 c).before 6 t d6 = cds m c from before0_6 m c d6 t.val t.isLt (by omega),
      show (dats m 0 c).before 7 t d7 = scs m c from before0_7 m c d7 t.val t.isLt (by omega)]
    iapply ((kernelRun0_B c (grid0.coords t) _ _ _ _ _ _ _ _ _ _ _ _ _ _ _ _ (fun h => h0 ((hcond0_0 t).mp h)) (iblk m c 0 t) (iblk m c 1 t) ((cfg0.win 2).fill (cfg0.grid.coords t) d2 (iblk m c 2 t)) ((cfg0.win 3).fill (cfg0.grid.coords t) d3 (iblk m c 3 t)) (cds m c) (scs m c)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    iintro ⟨H0, H1, H2, H3, H4, H5, H6, H7⟩
    isplitl [Hg]; · iexact Hg
    isplitl [Ho]; · iexact Ho
    isplitl [H0]; · iexact H0
    isplitl [H1]; · iexact H1
    isplitl [H2]; · iexists d2; iexact H2
    isplitl [H3]; · iexists d3; iexact H3
    isplitl [H4]
    · iexists (k0_pay10 (F := Ideal) (cds m c) ((cfg0.win 2).fill (cfg0.grid.coords t) d2 (iblk m c 2 t)) (scs m c)
        ((cfg0.win 3).fill (cfg0.grid.coords t) d3 (iblk m c 3 t)))
      rw [(cfg0.win 4).fill_congr_cut (cfg0.grid.coords t) (tile_cut m c t d2 d3)]
      iexact H4
    isplitl [H5]; · iexact H5
    isplitl [H6]; · iapply h6; iexact H6
    iapply h7; iexact H7

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligationLoose (dats m 0 c) (defs₀ (F := Ideal)) Variants.none () Set.univ forgets0 := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
/-- Every run ends, each array with contents the proof data allow, every other buffer as the region found it, and every
    semaphore counter at zero. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

/-- The frame: the argument arrays end unchanged and every counter is zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main_quiescent m ρ)

end Cert.InProjIdeal.Gen.Whole

end
-- ==== Proof.InProjValue.lean ====
/- What the input projection call leaves in its results, as functions of the argument arrays. -/
module

public import proofs.«01_k».proof.Proof.InProjMain
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.InProj

/-- The rows of the input, without the middle axis of extent one. -/
def rows (x : Vec Ideal ⟨3, ![96, 1, 4096]⟩ .bf16) : Vec Ideal ⟨2, ![96, 4096]⟩ .bf16 := fun i => x (ix3 (i 0) 0 (i 1))

/-- A vector as a matrix of one row. -/
def row {n : ℕ} (v : Vec Ideal ⟨1, ![n]⟩ .f32) : Vec Ideal ⟨2, ![1, n]⟩ .f32 := fun i => v (ix1 (i 1))

/-- The codes of the normalised rows: each element over its row's scale, clipped to ±448. -/
def codes (x : Vec Ideal ⟨3, ![96, 1, 4096]⟩ .bf16) (nw : Vec Ideal ⟨1, ![4096]⟩ .f32) : Vec Ideal ⟨2, ![96, 4096]⟩ .fp8e4m3 :=
  Cert.InProjIdeal.Gen.k0_pay8 (F := Ideal) (rows x) (row nw)

/-- The scales of the normalised rows: a row's largest magnitude over 448, or 1 for a row of zeros. -/
def scales (x : Vec Ideal ⟨3, ![96, 1, 4096]⟩ .bf16) (nw : Vec Ideal ⟨1, ![4096]⟩ .f32) : Vec Ideal ⟨2, ![96, 1]⟩ .f32 :=
  Cert.InProjIdeal.Gen.k0_pay7 (F := Ideal) (rows x) (row nw)

/-- Element (r, k) of the projection: the product of the codes and the weight, times the row's scale, times the column's. -/
def lin (x : Vec Ideal ⟨3, ![96, 1, 4096]⟩ .bf16) (nw : Vec Ideal ⟨1, ![4096]⟩ .f32) (w : Vec Ideal ⟨2, ![4096, 23264]⟩ .fp8e4m3)
    (ws : Vec Ideal ⟨1, ![23264]⟩ .f32) (r : Fin 96) (k : Fin 23264) : EReal :=
  ((∑ j : Fin 4096, codes x nw (ix2 r j) * w (ix2 j k)) * scales x nw (ix2 r 0)) * ws (ix1 k)

/-- The projection, with the middle axis of extent one. -/
def out (x : Vec Ideal ⟨3, ![96, 1, 4096]⟩ .bf16) (nw : Vec Ideal ⟨1, ![4096]⟩ .f32) (w : Vec Ideal ⟨2, ![4096, 23264]⟩ .fp8e4m3)
    (ws : Vec Ideal ⟨1, ![23264]⟩ .f32) : Vec Ideal ⟨3, ![96, 1, 23264]⟩ .f32 := fun i => lin x nw w ws (i 0) (i 2)

namespace K
open Cert.InProjIdeal Cert.InProjIdeal.Gen Cert.InProjIdeal.Gen.Whole

variable (m : (ℓ : Loc nD τ sig) → Buf (Elt Ideal) ℓ) (ρ : Dev nD → PrngReg)

theorem idx : ∀ t : Fin cfg0.N, win0_0.index t = ![0, 0] ∧ win0_1.index t = ![0, 0] ∧ win0_2.index t = ![t.val, 0]
    ∧ win0_3.index t = ![0, t.val] ∧ win0_4.index t = ![0, 0, t.val] ∧ win0_6.index t = ![0, 0] ∧ win0_7.index t = ![0, 0] :=
  (by decide +kernel : ∀ t : Fin grid0.N, _)

/-- The input's block is its rows. -/
theorem x_eq (c : Dev nD) (t : Fin cfg0.N) : iblk m c 0 t = rows (m ((c : Thread nD τ).loc main_arg0)) := by
  funext y
  have e0 := (idx t).1
  have e : ((cfg0.win 0).blk t).view.emb y = y := by
    blk_ext [e0]
  show V m c main_v0 (((cfg0.win 0).blk t).view.emb y) = _
  rw [e]
  idx_vars y
  unfold rows
  entry_read
  pointwise

/-- The norm weight's block is the norm weight. -/
theorem nw_eq (c : Dev nD) (t : Fin cfg0.N) : iblk m c 1 t = row (m ((c : Thread nD τ).loc main_arg1)) := by
  funext y
  have e0 := (idx t).2.1
  have e : ((cfg0.win 1).blk t).view.emb y = y := by
    blk_ext [e0]
  show V m c main_v1 (((cfg0.win 1).blk t).view.emb y) = _
  rw [e]
  idx_vars y
  unfold row
  entry_read
  pointwise

/-- The codes the first point stores, -/
theorem cds_eq (c : Dev nD) : cds m c = codes (m ((c : Thread nD τ).loc main_arg0)) (m ((c : Thread nD τ).loc main_arg1)) :=
  congrArg₂ (k0_pay8 (F := Ideal)) (x_eq m c t₀) (nw_eq m c t₀)

/-- and the scales. -/
theorem scs_eq (c : Dev nD) : scs m c = scales (m ((c : Thread nD τ).loc main_arg0)) (m ((c : Thread nD τ).loc main_arg1)) :=
  congrArg₂ (k0_pay7 (F := Ideal)) (x_eq m c t₀) (nw_eq m c t₀)

/-- A row of a point's weight block that lies in the array is a column of the weight. -/
theorem wb_apply (c : Dev nD) (t : Fin cfg0.N) (k : Fin 1024) (j : Fin 4096) (n : Fin 23264) (hn : n.val = t.val * 1024 + k.val) :
    wb m c t (ix2 k j) = (m ((c : Thread nD τ).loc main_arg2)) (ix2 j n) := by
  have ht : t.val < 23 := Nat.lt_of_lt_of_eq t.isLt N_0
  have hk := k.isLt
  have hj := j.isLt
  have e2 := (idx t).2.2.1
  have x2 := (xsizes t).1
  have hm : ∀ a, ((ix2 k j : S1024x4096.Idx) a).val < (cfg0.win 2).xsize (cfg0.grid.coords t) a := by
    intro a
    rw [x2]
    fin_cases a
    · show k.val < min 1024 (23264 - 1024 * t.val)
      have := n.isLt
      omega
    · exact hj
  unfold wb Pipeline.Window.fill
  rw [dif_pos (((cfg0.win 2).moved_iff _ _).mpr hm)]
  have e : ((cfg0.win 2).blk t).view.emb (fun a => ⟨((ix2 k j : S1024x4096.Idx) a).val, hm a⟩) = ix2 n j := by
    blk_ext [e2]
  show V m c main_v2 (((cfg0.win 2).blk t).view.emb (fun a => ⟨((ix2 k j : S1024x4096.Idx) a).val, hm a⟩)) = _
  rw [e]
  entry_read
  pointwise

/-- A scale of a point's block that lies in the array is one of the weight's. -/
theorem sb_apply (c : Dev nD) (t : Fin cfg0.N) (k : Fin 1024) (n : Fin 23264) (hn : n.val = t.val * 1024 + k.val) :
    sb m c t (ix2 0 k) = (m ((c : Thread nD τ).loc main_arg3)) (ix1 n) := by
  have ht : t.val < 23 := Nat.lt_of_lt_of_eq t.isLt N_0
  have hk := k.isLt
  have e3 := (idx t).2.2.2.1
  have x3 := (xsizes t).2.1
  have hm : ∀ a, ((ix2 0 k : S1x1024.Idx) a).val < (cfg0.win 3).xsize (cfg0.grid.coords t) a := by
    intro a
    rw [x3]
    fin_cases a
    · exact Nat.zero_lt_one
    · show k.val < min 1024 (23264 - 1024 * t.val)
      have := n.isLt
      omega
  unfold sb Pipeline.Window.fill
  rw [dif_pos (((cfg0.win 3).moved_iff _ _).mpr hm)]
  have e : ((cfg0.win 3).blk t).view.emb (fun a => ⟨((ix2 0 k : S1x1024.Idx) a).val, hm a⟩) = ix2 0 n := by
    blk_ext [e3]
  show V m c main_v3 (((cfg0.win 3).blk t).view.emb (fun a => ⟨((ix2 0 k : S1x1024.Idx) a).val, hm a⟩)) = _
  rw [e]
  entry_read
  pointwise

/-- A point's tile, where it lies in the array, is its columns of the projection. -/
theorem tile_apply (c : Dev nD) (t : Fin cfg0.N) (r : Fin 96) (u : Fin 1) (k : Fin 1024) (n : Fin 23264) (hn : n.val = t.val * 1024 + k.val) :
    tile m c t (ix3 r u k) = lin (m ((c : Thread nD τ).loc main_arg0)) (m ((c : Thread nD τ).loc main_arg1)) (m ((c : Thread nD τ).loc main_arg2)) (m ((c : Thread nD τ).loc main_arg3)) r n := by
  unfold tile
  rw [pay10_apply, sb_apply m c t k n hn, cds_eq, scs_eq]
  unfold lin
  rw [Finset.sum_congr rfl fun j _ => congrArg (fun z : EReal => codes (m ((c : Thread nD τ).loc main_arg0)) (m ((c : Thread nD τ).loc main_arg1)) (ix2 r j) * z) (wb_apply m c t k j n hn)]

theorem final4 (c : Dev nD) : (dats m 0 c).arrAt 4 cfg0.N = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  show (dats m 0 c).after 4 t ((cfg0.win 4).xinj (cfg0.grid.coords t) y) = _
  rw [after0_4]
  have ht : t.val < 23 := Nat.lt_of_lt_of_eq t.isLt N_0
  have e4 := (xsizes t).2.2
  have h2 : (y 2).val < min 1024 (23264 - 1024 * t.val) := lt_of_lt_of_eq (y 2).isLt (congrFun e4 2)
  have h0 : (y 0).val < 96 := lt_of_lt_of_eq (y 0).isLt (congrFun e4 0)
  have h1 : (y 1).val < 1 := lt_of_lt_of_eq (y 1).isLt (congrFun e4 1)
  have ex : (cfg0.win 4).xinj (cfg0.grid.coords t) y = ix3 (⟨(y 0).val, h0⟩ : Fin 96) (⟨(y 1).val, h1⟩ : Fin 1) (⟨(y 2).val, by omega⟩ : Fin 1024) := by
    funext a; fin_cases a <;> rfl
  have ei := (idx t).2.2.2.2.1
  have e : ((cfg0.win 4).blk t).view.emb y = ix3 (⟨(y 0).val, h0⟩ : Fin 96) (⟨(y 1).val, h1⟩ : Fin 1) (⟨t.val * 1024 + (y 2).val, by omega⟩ : Fin 23264) := by
    blk_ext [ei]
  rw [ex, e]
  exact tile_apply m c t _ _ _ ⟨t.val * 1024 + (y 2).val, by omega⟩ rfl

theorem final6 (c : Dev nD) : (dats m 0 c).arrAt 6 cfg0.N = codes (m ((c : Thread nD τ).loc main_arg0)) (m ((c : Thread nD τ).loc main_arg1)) := by
  refine (dats m 0 c).arrAt_eq_of_covers 6 _ (by decide +kernel) fun t hf y => ?_
  show (dats m 0 c).after 6 t y = _
  rw [after0_6, cds_eq]
  have e6 := (idx t).2.2.2.2.2.1
  have e : ((cfg0.win 6).blk t).view.emb y = y := by
    blk_ext [e6]
  rw [e]

theorem final7 (c : Dev nD) : (dats m 0 c).arrAt 7 cfg0.N = scales (m ((c : Thread nD τ).loc main_arg0)) (m ((c : Thread nD τ).loc main_arg1)) := by
  refine (dats m 0 c).arrAt_eq_of_covers 7 _ (by decide +kernel) fun t hf y => ?_
  show (dats m 0 c).after 7 t y = _
  rw [after0_7, scs_eq]
  have e7 := (idx t).2.2.2.2.2.2
  have e : ((cfg0.win 7).blk t).view.emb y = y := by
    blk_ext [e7]
  rw [e]

/-- The run: the three results are the values above, and the arguments end unchanged. -/
theorem run : θ_run defs (onTc (τ := τ) (main (F := Ideal))) ⟨m, fun _ => 0, ρ⟩ fun r => ∀ c : Dev nD,
      r.2.mem ((c : Thread nD τ).loc main_v4_0) = out (m ((c : Thread nD τ).loc main_arg0)) (m ((c : Thread nD τ).loc main_arg1)) (m ((c : Thread nD τ).loc main_arg2)) (m ((c : Thread nD τ).loc main_arg3))
      ∧ r.2.mem ((c : Thread nD τ).loc main_v4_2) = codes (m ((c : Thread nD τ).loc main_arg0)) (m ((c : Thread nD τ).loc main_arg1))
      ∧ r.2.mem ((c : Thread nD τ).loc main_v4_3) = scales (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      (((dats m 0 c).toRForget_arrAt_iff (fgt := forgets0) (w := 4) rfl _ _).mp ((h c).1 4)).trans (final4 m c),
      (((dats m 0 c).toRForget_arrAt_iff (fgt := forgets0) (w := 6) rfl _ _).mp ((h c).1 6)).trans (final6 m c),
      (((dats m 0 c).toRForget_arrAt_iff (fgt := forgets0) (w := 7) rfl _ _).mp ((h c).1 7)).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end K

end Cert.Proof.InProj

end
-- ==== Proof.InProjRef.lean ====
/- What the reference of the input projection call leaves in its results: the values of the kernel's call. -/
module

public import proofs.«01_k».proof.Proof.InProjValue
public import proofs.«01_k».proof.Proof.Gen.RefInProjIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.InProj

namespace R
open Cert.RefInProjIdeal Cert.RefInProjIdeal.Gen

variable (m : (ℓ : Loc nD τ sig) → Buf (Elt Ideal) ℓ) (ρ : Dev nD → PrngReg)

/-- The one grid point. -/
def t₀ : Fin cfg0.N := ⟨0, by decide⟩

theorem idx : ∀ t : Fin cfg0.N, win0_0.index t = ![0, 0] ∧ win0_1.index t = ![0, 0] ∧ win0_2.index t = ![0, 0]
    ∧ win0_3.index t = ![0, 0] ∧ win0_4.index t = ![0, 0, 0] ∧ win0_5.index t = ![0, 0] ∧ win0_6.index t = ![0, 0] :=
  (by decide +kernel : ∀ t : Fin grid0.N, _)

/-- The reference normalises the rows as the call does. -/
theorem norm_eq (x : Vec Ideal S96x4096 .bf16) (nw : Vec Ideal S1x4096 .f32) :
    k0_pay2 (F := Ideal) x nw = Cert.InProjIdeal.Gen.k0_pay6 (F := Ideal) x nw := rfl

/-- It scales them as the call does. -/
theorem scales_eq (x : Vec Ideal S96x4096 .bf16) (nw : Vec Ideal S1x4096 .f32) :
    k0_pay3 (F := Ideal) x nw = Cert.InProjIdeal.Gen.k0_pay7 (F := Ideal) x nw := by
  unfold k0_pay3 Cert.InProjIdeal.Gen.k0_pay7
  rw [norm_eq]

/-- It codes them as the call does. -/
theorem codes_eq (x : Vec Ideal S96x4096 .bf16) (nw : Vec Ideal S1x4096 .f32) :
    k0_pay4 (F := Ideal) x nw = Cert.InProjIdeal.Gen.k0_pay8 (F := Ideal) x nw := by
  unfold k0_pay4 Cert.InProjIdeal.Gen.k0_pay8
  rw [norm_eq, scales_eq]

/-- Element (r, k) of the reference's product. -/
theorem pay1_apply (p s : Vec Ideal S96x23264 .f32) (ws : Vec Ideal S1x23264 .f32) (r : Fin 96) (u : Fin 1) (k : Fin 23264) :
    k0_pay1 (F := Ideal) p s ws (ix3 r u k) = (p (ix2 r k) * s (ix2 r k)) * ws (ix2 0 k) := by
  pointwise [k0_pay1]

theorem pay5_apply (x : Vec Ideal S96x4096 .bf16) (nw : Vec Ideal S1x4096 .f32) (w : Vec Ideal S4096x23264 .fp8e4m3) (r : Fin 96) (k : Fin 23264) :
    k0_pay5 (F := Ideal) x nw w (ix2 r k) = ∑ j : Fin 4096, k0_pay4 (F := Ideal) x nw (ix2 r j) * w (ix2 j k) := by
  unfold k0_pay5
  generalize k0_pay4 (F := Ideal) x nw = a
  pointwise []

theorem pay6_apply (x : Vec Ideal S96x4096 .bf16) (nw : Vec Ideal S1x4096 .f32) (r : Fin 96) (k : Fin 23264) :
    k0_pay6 (F := Ideal) x nw (ix2 r k) = k0_pay3 (F := Ideal) x nw (ix2 r 0) := by
  unfold k0_pay6
  generalize k0_pay3 (F := Ideal) x nw = a
  pointwise []

/-- The input's block is its rows. -/
theorem x_eq (c : Dev nD) (t : Fin cfg0.N) : iblk m c 0 t = rows (m ((c : Thread nD τ).loc main_arg0)) := by
  funext y
  have e0 := (idx t).1
  have e : ((cfg0.win 0).blk t).view.emb y = y := by
    blk_ext [e0]
  show V m c main_v0 (((cfg0.win 0).blk t).view.emb y) = _
  rw [e]
  idx_vars y
  unfold rows
  entry_read
  pointwise

/-- The norm weight's block is the norm weight. -/
theorem nw_eq (c : Dev nD) (t : Fin cfg0.N) : iblk m c 1 t = row (m ((c : Thread nD τ).loc main_arg1)) := by
  funext y
  have e0 := (idx t).2.1
  have e : ((cfg0.win 1).blk t).view.emb y = y := by
    blk_ext [e0]
  show V m c main_v1 (((cfg0.win 1).blk t).view.emb y) = _
  rw [e]
  idx_vars y
  unfold row
  entry_read
  pointwise

/-- The weight's block is the weight. -/
theorem w_eq (c : Dev nD) (t : Fin cfg0.N) : iblk m c 2 t = (m ((c : Thread nD τ).loc main_arg2)) := by
  funext y
  have e0 := (idx t).2.2.1
  have e : ((cfg0.win 2).blk t).view.emb y = y := by
    blk_ext [e0]
  show V m c main_arg2 (((cfg0.win 2).blk t).view.emb y) = _
  rw [e, V_main_arg2]

/-- The weight scales' block is the weight scales. -/
theorem ws_eq (c : Dev nD) (t : Fin cfg0.N) : iblk m c 3 t = row (m ((c : Thread nD τ).loc main_arg3)) := by
  funext y
  have e0 := (idx t).2.2.2.1
  have e : ((cfg0.win 3).blk t).view.emb y = y := by
    blk_ext [e0]
  show V m c main_v2 (((cfg0.win 3).blk t).view.emb y) = _
  rw [e]
  idx_vars y
  unfold row
  entry_read
  pointwise

theorem final4 (c : Dev nD) : (dats (F := Ideal) m 0 c).arrAt 4 cfg0.N = out (m ((c : Thread nD τ).loc main_arg0)) (m ((c : Thread nD τ).loc main_arg1)) (m ((c : Thread nD τ).loc main_arg2)) (m ((c : Thread nD τ).loc main_arg3)) := by
  refine (dats m 0 c).arrAt_eq_of_after_last 4 t₀ (by decide +kernel) _ fun j => ?_
  blk_simp
  rw [after0_4]
  frame_out
  rw [x_eq, nw_eq, w_eq, ws_eq]
  idx_vars j
  rw [pay1_apply, pay5_apply, pay6_apply, codes_eq, scales_eq]
  rfl

theorem final5 (c : Dev nD) : (dats (F := Ideal) m 0 c).arrAt 5 cfg0.N = codes (m ((c : Thread nD τ).loc main_arg0)) (m ((c : Thread nD τ).loc main_arg1)) := by
  refine (dats m 0 c).arrAt_eq_of_after_last 5 t₀ (by decide +kernel) _ fun j => ?_
  blk_simp
  rw [after0_5]
  frame_out
  rw [x_eq, nw_eq, codes_eq]
  rfl

theorem final6 (c : Dev nD) : (dats (F := Ideal) m 0 c).arrAt 6 cfg0.N = scales (m ((c : Thread nD τ).loc main_arg0)) (m ((c : Thread nD τ).loc main_arg1)) := by
  refine (dats m 0 c).arrAt_eq_of_after_last 6 t₀ (by decide +kernel) _ fun j => ?_
  blk_simp
  rw [after0_6]
  frame_out
  rw [x_eq, nw_eq, scales_eq]
  rfl

/-- The run: the three results are the values above, and the arguments end unchanged. -/
theorem run : θ_run defs (onTc (τ := τ) (main (F := Ideal))) ⟨m, fun _ => 0, ρ⟩ fun r => ∀ c : Dev nD,
      r.2.mem ((c : Thread nD τ).loc main_v3_0) = out (m ((c : Thread nD τ).loc main_arg0)) (m ((c : Thread nD τ).loc main_arg1)) (m ((c : Thread nD τ).loc main_arg2)) (m ((c : Thread nD τ).loc main_arg3))
      ∧ r.2.mem ((c : Thread nD τ).loc main_v3_1) = codes (m ((c : Thread nD τ).loc main_arg0)) (m ((c : Thread nD τ).loc main_arg1))
      ∧ r.2.mem ((c : Thread nD τ).loc main_v3_2) = scales (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c), ((h c).1 6).trans (final6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end R

end Cert.Proof.InProj

end
-- ==== Proof.InProjClaim.lean ====
/- The claim of the input projection call: the call and its reference compute the same function. -/
module

public import proofs.«01_k».proof.Defs
public import proofs.«01_k».proof.Proof.InProjRef

@[expose] public section

noncomputable section

open Idealize.ShloMosaic Idealize.ShloMosaic.TcCoe Idealize.SL.Sem

namespace Cert.Proof.InProj

/-- From equal arguments, the input projection call and its reference leave equal results. -/
theorem algebraic : Cert.algebraic_InProjIdeal_RefInProjIdeal (hInProjIdeal := Cert.InProjIdeal.Gen.facts)
    (hRefInProjIdeal := Cert.RefInProjIdeal.Gen.facts) := by
  intro m g m' g' _ hargs
  refine ⟨fun c => _, fun c => _, fun c => _, K.run m g, ?_⟩
  refine (θ_run (Cert.RefInProjIdeal.defs (F := Ideal)) _ _).mono (fun r h c => ?_) (R.run m' g')
  obtain ⟨h0, h1, h2, h3⟩ := h c
  obtain ⟨a0, a1, a2, a3⟩ := hargs c
  refine ⟨h0.trans ?_, h1.trans ?_, h2.trans ?_, h3⟩
  · rw [a0, a1, a2, a3]
  · rw [a0, a1]
  · rw [a0, a1]

end Cert.Proof.InProj

end
-- ==== Proof.OutProjFrame.lean ====
/- The whole frame certificate of the output projection call: what the outputs hold is forgotten, only that
   the run ends with the arguments unchanged and all counters at zero is stated. -/
module

public import proofs.«01_k».proof.Proof.Gen.OutProj.Frame
public import proofs.«01_k».proof.Proof.Gen.OutProj.Skeleton
public import Idealize.ShloMosaic.Lib.Pipeline.FrameBody
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.OutProj.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_OutProj`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, k0_cond1, e0]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S96x56x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S96x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S96x4096 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S96x4096 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S96x1 .f32 := win0_10.stage (cfg0.slots t 10)
abbrev hs0_10 (t : Fin cfg0.N) : (ms0_10 t).IsWhole := hstage0_10 ((cfg0.slots t 10).cast nbuf0_10)

-- (the run's proof term is large: checking it walks past the default budget)
set_option maxHeartbeats 1316000 in
/-- The body's triple IN CASE A (`scf.if` 0 taken, `scf.if` 1 not taken: points 0): on whole staging memrefs — the inputs' at their contents,
    the FORGOTTEN outputs' (5, 6, 7, 8, 9, 10) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S96x56x128 .f32) (harg1 : arg1.IsWhole) (arg2 : Memref sig .tc .vmem S96x1024 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S1x4096 .f32) (harg5 : arg5.IsWhole) (arg6 : Memref sig .tc .vmem S96x8x128 .f32) (harg6 : arg6.IsWhole) (arg7 : Memref sig .tc .vmem S96x7168 .fp8e4m3) (harg7 : arg7.IsWhole) (arg8 : Memref sig .tc .vmem S96x1 .f32) (harg8 : arg8.IsWhole) (arg9 : Memref sig .tc .vmem S96x4096 .f32) (harg9 : arg9.IsWhole) (arg10 : Memref sig .tc .vmem S96x4096 .fp8e4m3) (harg10 : arg10.IsWhole) (arg11 : Memref sig .tc .vmem S96x1 .f32) (harg11 : arg11.IsWhole) (hc0 : cond0_0 i) (hc1 : ¬cond0_1 i)
    (x0 : Vec F S96x56x128 .f32) (x1 : Vec F S96x1024 .bf16) (x2 : Vec F S7168x1024 .fp8e4m3) (x3 : Vec F S1x1024 .f32) (x4 : Vec F S1x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_outproj i arg1 harg1 arg2 harg2 arg3 harg3 arg4 harg4 arg5 harg5 arg6 harg6 arg7 harg7 arg8 harg8 arg9 harg9 arg10 harg10 arg11 harg11) K := by
    intro E K
    simp only [cc0_outproj_eq_skeleton]; unfold cc0_outproj_skel
    simp only [k0_part25_eq_skeleton, k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

-- (the run's proof term is large: checking it walks past the default budget)
set_option maxHeartbeats 1000000 in
/-- The body's triple IN CASE B (`scf.if` 0 not taken, `scf.if` 1 not taken: points 1, 2): on whole staging memrefs — the inputs' at their contents,
    the FORGOTTEN outputs' (5, 6, 7, 8, 9, 10) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S96x56x128 .f32) (harg1 : arg1.IsWhole) (arg2 : Memref sig .tc .vmem S96x1024 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S1x4096 .f32) (harg5 : arg5.IsWhole) (arg6 : Memref sig .tc .vmem S96x8x128 .f32) (harg6 : arg6.IsWhole) (arg7 : Memref sig .tc .vmem S96x7168 .fp8e4m3) (harg7 : arg7.IsWhole) (arg8 : Memref sig .tc .vmem S96x1 .f32) (harg8 : arg8.IsWhole) (arg9 : Memref sig .tc .vmem S96x4096 .f32) (harg9 : arg9.IsWhole) (arg10 : Memref sig .tc .vmem S96x4096 .fp8e4m3) (harg10 : arg10.IsWhole) (arg11 : Memref sig .tc .vmem S96x1 .f32) (harg11 : arg11.IsWhole) (hc0 : ¬cond0_0 i) (hc1 : ¬cond0_1 i)
    (x0 : Vec F S96x56x128 .f32) (x1 : Vec F S96x1024 .bf16) (x2 : Vec F S7168x1024 .fp8e4m3) (x3 : Vec F S1x1024 .f32) (x4 : Vec F S1x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_outproj i arg1 harg1 arg2 harg2 arg3 harg3 arg4 harg4 arg5 harg5 arg6 harg6 arg7 harg7 arg8 harg8 arg9 harg9 arg10 harg10 arg11 harg11) K := by
    intro E K
    simp only [cc0_outproj_eq_skeleton]; unfold cc0_outproj_skel
    simp only [k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

-- (the run's proof term is large: checking it walks past the default budget)
set_option maxHeartbeats 1000000 in
/-- The body's triple IN CASE C (`scf.if` 0 not taken, `scf.if` 1 taken: points 3): on whole staging memrefs — the inputs' at their contents,
    the FORGOTTEN outputs' (5, 6, 7, 8, 9, 10) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S96x56x128 .f32) (harg1 : arg1.IsWhole) (arg2 : Memref sig .tc .vmem S96x1024 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S1x4096 .f32) (harg5 : arg5.IsWhole) (arg6 : Memref sig .tc .vmem S96x8x128 .f32) (harg6 : arg6.IsWhole) (arg7 : Memref sig .tc .vmem S96x7168 .fp8e4m3) (harg7 : arg7.IsWhole) (arg8 : Memref sig .tc .vmem S96x1 .f32) (harg8 : arg8.IsWhole) (arg9 : Memref sig .tc .vmem S96x4096 .f32) (harg9 : arg9.IsWhole) (arg10 : Memref sig .tc .vmem S96x4096 .fp8e4m3) (harg10 : arg10.IsWhole) (arg11 : Memref sig .tc .vmem S96x1 .f32) (harg11 : arg11.IsWhole) (hc0 : ¬cond0_0 i) (hc1 : cond0_1 i)
    (x0 : Vec F S96x56x128 .f32) (x1 : Vec F S96x1024 .bf16) (x2 : Vec F S7168x1024 .fp8e4m3) (x3 : Vec F S1x1024 .f32) (x4 : Vec F S1x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_outproj i arg1 harg1 arg2 harg2 arg3 harg3 arg4 harg4 arg5 harg5 arg6 harg6 arg7 harg7 arg8 harg8 arg9 harg9 arg10 harg10 arg11 harg11) K := by
    intro E K
    simp only [cc0_outproj_eq_skeleton]; unfold cc0_outproj_skel
    simp only [k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

/-! ## The pipeline's proof data -/

/-- The output windows this certificate FORGETS (5, 6, 7, 8, 9, 10): nothing reads what the kernel leaves in them, so nothing
    of it is named (Lib/Pipeline/Dat.lean `Dat.toRForget`). -/
def forgets0 : Fin 11 → Bool := fun w => w.val == 5 || w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 4 := lt_of_lt_of_eq t.isLt (show cfg0.N = 4 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      iintro ⟨H0, H1, H2, H3, H4, H5, H6, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      iintro ⟨H0, H1, H2, H3, H4, H5, H6, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      iintro ⟨H0, H1, H2, H3, H4, H5, H6, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_OutProj`'s statement at any `F` — Proof.lean cites it at `Bits`:
    `theorem Cert.Proof.claim : Cert.Claim := ⟨Cert.OutProj.Gen.facts, fun m ρ _ => Cert.OutProj.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.OutProj.Gen.Whole

end
-- ==== Proof.OutProjRows.lean ====
/- The codes and scales the output projection makes of its rows, over the reals. -/
module

public import proofs.«01_k».proof.Proof.Gen.OutProjIdeal.Skeleton
public import Idealize.ShloMosaic.Lib.Pipeline.ValueKit
public import Idealize.ShloMosaic.Lib.Pipeline.FrameBody
public import Idealize.ShloMosaic.Lib.Pointwise
public import Idealize.ShloMosaic.Lib.WritesUnit
public import Idealize.ShloMosaic.Lib.VecWindow
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.OutProjIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What the first point computes from its rows -/

/-- Group `j` of the 56 groups of 128 columns. -/
def sl (x0 : Vec Ideal S96x56x128 .f32) (j : ℕ) : Vec Ideal S96x1x128 .f32 := fun y =>
  x0 (ix3 (y 0) ⟨j % 56, Nat.mod_lt _ (by decide)⟩ (y 2))

/-- The scales of the rows. -/
def osc (x0 : Vec Ideal S96x56x128 .f32) : Vec Ideal S96x1 .f32 :=
  k0_pay16 (F := Ideal) (k0_pay15 (F := Ideal) (k0_pay14 (F := Ideal) (k0_pay13 (F := Ideal) (k0_pay12 (F := Ideal) (k0_pay10 (F := Ideal) (k0_pay9 (F := Ideal) (sl x0 0) (sl x0 1) (sl x0 2) (sl x0 3) (sl x0 4) (sl x0 5) (sl x0 6) (sl x0 7)) (sl x0 8) (sl x0 9) (sl x0 10) (sl x0 11) (sl x0 12) (sl x0 13) (sl x0 14) (sl x0 15)) (k0_pay11 (F := Ideal) (sl x0 16)) (sl x0 17) (sl x0 18) (sl x0 19) (sl x0 20) (sl x0 21) (sl x0 22) (sl x0 23) (sl x0 24)) (sl x0 25) (sl x0 26) (sl x0 27) (sl x0 28) (sl x0 29) (sl x0 30) (sl x0 31) (sl x0 32) (sl x0 33)) (sl x0 34) (sl x0 35) (sl x0 36) (sl x0 37) (sl x0 38) (sl x0 39) (sl x0 40) (sl x0 41)) (sl x0 42) (sl x0 43) (sl x0 44) (sl x0 45) (sl x0 46) (sl x0 47) (sl x0 48) (sl x0 49) (sl x0 50)) (sl x0 51) (sl x0 52) (sl x0 53) (sl x0 54) (sl x0 55)

/-- The codes of the rows: group by group the row over its scale, kept in range. -/
def oqc (s : Vec Ideal S96x1 .f32) (x0 : Vec Ideal S96x56x128 .f32) : Vec Ideal S96x7168 .fp8e4m3 := fun y =>
  k0_pay20 (F := Ideal) s (sl x0 ((y 1).val / 128)) (ix2 (y 0) ⟨(y 1).val % 128, Nat.mod_lt _ (by decide)⟩)

end Cert.OutProjIdeal.Gen.Whole
-- ==== Proof.OutProjRun.lean ====
/- The whole run of the output projection over the reals, with the contents of every claimed buffer named: the codes and
   scales the first point stores, and the class of results every point stores. -/
module

public import proofs.«01_k».proof.Proof.Gen.OutProjIdeal.Frame
public import proofs.«01_k».proof.Proof.OutProjRows
public import Idealize.ShloMosaic.Lib.Pipeline.ValueKit
public import Idealize.ShloMosaic.Lib.Pipeline.FrameBody
public import Idealize.ShloMosaic.Lib.Pointwise
public import Idealize.ShloMosaic.Lib.WritesUnit
public import Idealize.ShloMosaic.Lib.VecWindow
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.OutProjIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, k0_cond1, e0]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [cond0_1, k0_cond2, e0]
    word_cmp
   : ∀ t : Fin grid0.N, cond0_1 (grid0.coords t) ↔ t.val % 4 = 3)

/-! ## The inputs' windows are never idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-! ## The staging memrefs of a point -/

abbrev ms0_0 (t : Fin cfg0.N) : Memref sig .tc .vmem S96x56x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S96x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S96x4096 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S96x4096 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S96x1 .f32 := win0_10.stage (cfg0.slots t 10)
abbrev hs0_10 (t : Fin cfg0.N) : (ms0_10 t).IsWhole := hstage0_10 ((cfg0.slots t 10).cast nbuf0_10)

/-- A load of one group of a whole buffer that holds `x0`. -/
theorem rdS (a : Memref sig .tc .vmem S96x56x128 .f32) (ha : a.IsWhole) (x0 : Vec Ideal S96x56x128 .f32) {j : ℕ}
    (inb : ∀ k, (![0, j, 0] : Fin 3 → ℕ) k + S96x1x128.size k ≤ S96x56x128.size k) :
    View.readAt (Elt Ideal) a.view (Rect.unit (s := S96x56x128) ![0, j, 0] S96x1x128.size inb).toLoadRect (ha.unread x0) = sl x0 j := by
  have hj : j + 1 ≤ 56 := inb 1
  funext y
  have e : View.readAt (Elt Ideal) a.view (Rect.unit (s := S96x56x128) ![0, j, 0] S96x1x128.size inb).toLoadRect (ha.unread x0) y
      = a.view.read (Elt Ideal) (ha.unread x0) ((Rect.unit (s := S96x56x128) ![0, j, 0] S96x1x128.size inb).emb y) := rfl
  rw [e, ha.read_unread]
  show x0 _ = x0 _
  have h1 : (y 1).val = 0 := by have : (y 1).val < 1 := (y 1).isLt; omega
  congr 1
  funext k; fin_cases k <;> apply Fin.ext
  · show 0 + 1 * (y 0).val = (y 0).val; omega
  · show j + 1 * (y 1).val = j % 56; rw [h1, Nat.mod_eq_of_lt (by omega)]; omega
  · show 0 + 1 * (y 2).val = (y 2).val; omega

set_option maxHeartbeats 1000000 in
/-- The 56 groups of columns cover the codes. -/
theorem coverQ (p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 : Vec Ideal S96x128 .fp8e4m3) (y : S96x7168.Idx) :
    ∃ p ∈ ([⟨Rect.unit (s := S96x7168) ![0, 7040] S96x128.size inb_S96x7168_S96x128_0_7040, p55⟩,
      ⟨Rect.unit (s := S96x7168) ![0, 6912] S96x128.size inb_S96x7168_S96x128_0_6912, p54⟩,
      ⟨Rect.unit (s := S96x7168) ![0, 6784] S96x128.size inb_S96x7168_S96x128_0_6784, p53⟩,
      ⟨Rect.unit (s := S96x7168) ![0, 6656] S96x128.size inb_S96x7168_S96x128_0_6656, p52⟩,
      ⟨Rect.unit (s := S96x7168) ![0, 6528] S96x128.size inb_S96x7168_S96x128_0_6528, p51⟩,
      ⟨Rect.unit (s := S96x7168) ![0, 6400] S96x128.size inb_S96x7168_S96x128_0_6400, p50⟩,
      ⟨Rect.unit (s := S96x7168) ![0, 6272] S96x128.size inb_S96x7168_S96x128_0_6272, p49⟩,
      ⟨Rect.unit (s := S96x7168) ![0, 6144] S96x128.size inb_S96x7168_S96x128_0_6144, p48⟩,
      ⟨Rect.unit (s := S96x7168) ![0, 6016] S96x128.size inb_S96x7168_S96x128_0_6016, p47⟩,
      ⟨Rect.unit (s := S96x7168) ![0, 5888] S96x128.size inb_S96x7168_S96x128_0_5888, p46⟩,
      ⟨Rect.unit (s := S96x7168) ![0, 5760] S96x128.size inb_S96x7168_S96x128_0_5760, p45⟩,
      ⟨Rect.unit (s := S96x7168) ![0, 5632] S96x128.size inb_S96x7168_S96x128_0_5632, p44⟩,
      ⟨Rect.unit (s := S96x7168) ![0, 5504] S96x128.size inb_S96x7168_S96x128_0_5504, p43⟩,
      ⟨Rect.unit (s := S96x7168) ![0, 5376] S96x128.size inb_S96x7168_S96x128_0_5376, p42⟩,
      ⟨Rect.unit (s := S96x7168) ![0, 5248] S96x128.size inb_S96x7168_S96x128_0_5248, p41⟩,
      ⟨Rect.unit (s := S96x7168) ![0, 5120] S96x128.size inb_S96x7168_S96x128_0_5120, p40⟩,
      ⟨Rect.unit (s := S96x7168) ![0, 4992] S96x128.size inb_S96x7168_S96x128_0_4992, p39⟩,
      ⟨Rect.unit (s := S96x7168) ![0, 4864] S96x128.size inb_S96x7168_S96x128_0_4864, p38⟩,
      ⟨Rect.unit (s := S96x7168) ![0, 4736] S96x128.size inb_S96x7168_S96x128_0_4736, p37⟩,
      ⟨Rect.unit (s := S96x7168) ![0, 4608] S96x128.size inb_S96x7168_S96x128_0_4608, p36⟩,
      ⟨Rect.unit (s := S96x7168) ![0, 4480] S96x128.size inb_S96x7168_S96x128_0_4480, p35⟩,
      ⟨Rect.unit (s := S96x7168) ![0, 4352] S96x128.size inb_S96x7168_S96x128_0_4352, p34⟩,
      ⟨Rect.unit (s := S96x7168) ![0, 4224] S96x128.size inb_S96x7168_S96x128_0_4224, p33⟩,
      ⟨Rect.unit (s := S96x7168) ![0, 4096] S96x128.size inb_S96x7168_S96x128_0_4096, p32⟩,
      ⟨Rect.unit (s := S96x7168) ![0, 3968] S96x128.size inb_S96x7168_S96x128_0_3968, p31⟩,
      ⟨Rect.unit (s := S96x7168) ![0, 3840] S96x128.size inb_S96x7168_S96x128_0_3840, p30⟩,
      ⟨Rect.unit (s := S96x7168) ![0, 3712] S96x128.size inb_S96x7168_S96x128_0_3712, p29⟩,
      ⟨Rect.unit (s := S96x7168) ![0, 3584] S96x128.size inb_S96x7168_S96x128_0_3584, p28⟩,
      ⟨Rect.unit (s := S96x7168) ![0, 3456] S96x128.size inb_S96x7168_S96x128_0_3456, p27⟩,
      ⟨Rect.unit (s := S96x7168) ![0, 3328] S96x128.size inb_S96x7168_S96x128_0_3328, p26⟩,
      ⟨Rect.unit (s := S96x7168) ![0, 3200] S96x128.size inb_S96x7168_S96x128_0_3200, p25⟩,
      ⟨Rect.unit (s := S96x7168) ![0, 3072] S96x128.size inb_S96x7168_S96x128_0_3072, p24⟩,
      ⟨Rect.unit (s := S96x7168) ![0, 2944] S96x128.size inb_S96x7168_S96x128_0_2944, p23⟩,
      ⟨Rect.unit (s := S96x7168) ![0, 2816] S96x128.size inb_S96x7168_S96x128_0_2816, p22⟩,
      ⟨Rect.unit (s := S96x7168) ![0, 2688] S96x128.size inb_S96x7168_S96x128_0_2688, p21⟩,
      ⟨Rect.unit (s := S96x7168) ![0, 2560] S96x128.size inb_S96x7168_S96x128_0_2560, p20⟩,
      ⟨Rect.unit (s := S96x7168) ![0, 2432] S96x128.size inb_S96x7168_S96x128_0_2432, p19⟩,
      ⟨Rect.unit (s := S96x7168) ![0, 2304] S96x128.size inb_S96x7168_S96x128_0_2304, p18⟩,
      ⟨Rect.unit (s := S96x7168) ![0, 2176] S96x128.size inb_S96x7168_S96x128_0_2176, p17⟩,
      ⟨Rect.unit (s := S96x7168) ![0, 2048] S96x128.size inb_S96x7168_S96x128_0_2048, p16⟩,
      ⟨Rect.unit (s := S96x7168) ![0, 1920] S96x128.size inb_S96x7168_S96x128_0_1920, p15⟩,
      ⟨Rect.unit (s := S96x7168) ![0, 1792] S96x128.size inb_S96x7168_S96x128_0_1792, p14⟩,
      ⟨Rect.unit (s := S96x7168) ![0, 1664] S96x128.size inb_S96x7168_S96x128_0_1664, p13⟩,
      ⟨Rect.unit (s := S96x7168) ![0, 1536] S96x128.size inb_S96x7168_S96x128_0_1536, p12⟩,
      ⟨Rect.unit (s := S96x7168) ![0, 1408] S96x128.size inb_S96x7168_S96x128_0_1408, p11⟩,
      ⟨Rect.unit (s := S96x7168) ![0, 1280] S96x128.size inb_S96x7168_S96x128_0_1280, p10⟩,
      ⟨Rect.unit (s := S96x7168) ![0, 1152] S96x128.size inb_S96x7168_S96x128_0_1152, p9⟩,
      ⟨Rect.unit (s := S96x7168) ![0, 1024] S96x128.size inb_S96x7168_S96x128_0_1024, p8⟩,
      ⟨Rect.unit (s := S96x7168) ![0, 896] S96x128.size inb_S96x7168_S96x128_0_896, p7⟩,
      ⟨Rect.unit (s := S96x7168) ![0, 768] S96x128.size inb_S96x7168_S96x128_0_768, p6⟩,
      ⟨Rect.unit (s := S96x7168) ![0, 640] S96x128.size inb_S96x7168_S96x128_0_640, p5⟩,
      ⟨Rect.unit (s := S96x7168) ![0, 512] S96x128.size inb_S96x7168_S96x128_0_512, p4⟩,
      ⟨Rect.unit (s := S96x7168) ![0, 384] S96x128.size inb_S96x7168_S96x128_0_384, p3⟩,
      ⟨Rect.unit (s := S96x7168) ![0, 256] S96x128.size inb_S96x7168_S96x128_0_256, p2⟩,
      ⟨Rect.unit (s := S96x7168) ![0, 128] S96x128.size inb_S96x7168_S96x128_0_128, p1⟩,
      ⟨Rect.unit (s := S96x7168) ![0, 0] S96x128.size inb_S96x7168_S96x128_0_0, p0⟩] : List (View.Piece (Elt Ideal) S96x7168 .fp8e4m3)), y ∈ p.1.set :=
  View.cover_of_tiled ([⟨Rect.unit (s := S96x7168) ![0, 7040] S96x128.size inb_S96x7168_S96x128_0_7040, p55⟩,
      ⟨Rect.unit (s := S96x7168) ![0, 6912] S96x128.size inb_S96x7168_S96x128_0_6912, p54⟩,
      ⟨Rect.unit (s := S96x7168) ![0, 6784] S96x128.size inb_S96x7168_S96x128_0_6784, p53⟩,
      ⟨Rect.unit (s := S96x7168) ![0, 6656] S96x128.size inb_S96x7168_S96x128_0_6656, p52⟩,
      ⟨Rect.unit (s := S96x7168) ![0, 6528] S96x128.size inb_S96x7168_S96x128_0_6528, p51⟩,
      ⟨Rect.unit (s := S96x7168) ![0, 6400] S96x128.size inb_S96x7168_S96x128_0_6400, p50⟩,
      ⟨Rect.unit (s := S96x7168) ![0, 6272] S96x128.size inb_S96x7168_S96x128_0_6272, p49⟩,
      ⟨Rect.unit (s := S96x7168) ![0, 6144] S96x128.size inb_S96x7168_S96x128_0_6144, p48⟩,
      ⟨Rect.unit (s := S96x7168) ![0, 6016] S96x128.size inb_S96x7168_S96x128_0_6016, p47⟩,
      ⟨Rect.unit (s := S96x7168) ![0, 5888] S96x128.size inb_S96x7168_S96x128_0_5888, p46⟩,
      ⟨Rect.unit (s := S96x7168) ![0, 5760] S96x128.size inb_S96x7168_S96x128_0_5760, p45⟩,
      ⟨Rect.unit (s := S96x7168) ![0, 5632] S96x128.size inb_S96x7168_S96x128_0_5632, p44⟩,
      ⟨Rect.unit (s := S96x7168) ![0, 5504] S96x128.size inb_S96x7168_S96x128_0_5504, p43⟩,
      ⟨Rect.unit (s := S96x7168) ![0, 5376] S96x128.size inb_S96x7168_S96x128_0_5376, p42⟩,
      ⟨Rect.unit (s := S96x7168) ![0, 5248] S96x128.size inb_S96x7168_S96x128_0_5248, p41⟩,
      ⟨Rect.unit (s := S96x7168) ![0, 5120] S96x128.size inb_S96x7168_S96x128_0_5120, p40⟩,
      ⟨Rect.unit (s := S96x7168) ![0, 4992] S96x128.size inb_S96x7168_S96x128_0_4992, p39⟩,
      ⟨Rect.unit (s := S96x7168) ![0, 4864] S96x128.size inb_S96x7168_S96x128_0_4864, p38⟩,
      ⟨Rect.unit (s := S96x7168) ![0, 4736] S96x128.size inb_S96x7168_S96x128_0_4736, p37⟩,
      ⟨Rect.unit (s := S96x7168) ![0, 4608] S96x128.size inb_S96x7168_S96x128_0_4608, p36⟩,
      ⟨Rect.unit (s := S96x7168) ![0, 4480] S96x128.size inb_S96x7168_S96x128_0_4480, p35⟩,
      ⟨Rect.unit (s := S96x7168) ![0, 4352] S96x128.size inb_S96x7168_S96x128_0_4352, p34⟩,
      ⟨Rect.unit (s := S96x7168) ![0, 4224] S96x128.size inb_S96x7168_S96x128_0_4224, p33⟩,
      ⟨Rect.unit (s := S96x7168) ![0, 4096] S96x128.size inb_S96x7168_S96x128_0_4096, p32⟩,
      ⟨Rect.unit (s := S96x7168) ![0, 3968] S96x128.size inb_S96x7168_S96x128_0_3968, p31⟩,
      ⟨Rect.unit (s := S96x7168) ![0, 3840] S96x128.size inb_S96x7168_S96x128_0_3840, p30⟩,
      ⟨Rect.unit (s := S96x7168) ![0, 3712] S96x128.size inb_S96x7168_S96x128_0_3712, p29⟩,
      ⟨Rect.unit (s := S96x7168) ![0, 3584] S96x128.size inb_S96x7168_S96x128_0_3584, p28⟩,
      ⟨Rect.unit (s := S96x7168) ![0, 3456] S96x128.size inb_S96x7168_S96x128_0_3456, p27⟩,
      ⟨Rect.unit (s := S96x7168) ![0, 3328] S96x128.size inb_S96x7168_S96x128_0_3328, p26⟩,
      ⟨Rect.unit (s := S96x7168) ![0, 3200] S96x128.size inb_S96x7168_S96x128_0_3200, p25⟩,
      ⟨Rect.unit (s := S96x7168) ![0, 3072] S96x128.size inb_S96x7168_S96x128_0_3072, p24⟩,
      ⟨Rect.unit (s := S96x7168) ![0, 2944] S96x128.size inb_S96x7168_S96x128_0_2944, p23⟩,
      ⟨Rect.unit (s := S96x7168) ![0, 2816] S96x128.size inb_S96x7168_S96x128_0_2816, p22⟩,
      ⟨Rect.unit (s := S96x7168) ![0, 2688] S96x128.size inb_S96x7168_S96x128_0_2688, p21⟩,
      ⟨Rect.unit (s := S96x7168) ![0, 2560] S96x128.size inb_S96x7168_S96x128_0_2560, p20⟩,
      ⟨Rect.unit (s := S96x7168) ![0, 2432] S96x128.size inb_S96x7168_S96x128_0_2432, p19⟩,
      ⟨Rect.unit (s := S96x7168) ![0, 2304] S96x128.size inb_S96x7168_S96x128_0_2304, p18⟩,
      ⟨Rect.unit (s := S96x7168) ![0, 2176] S96x128.size inb_S96x7168_S96x128_0_2176, p17⟩,
      ⟨Rect.unit (s := S96x7168) ![0, 2048] S96x128.size inb_S96x7168_S96x128_0_2048, p16⟩,
      ⟨Rect.unit (s := S96x7168) ![0, 1920] S96x128.size inb_S96x7168_S96x128_0_1920, p15⟩,
      ⟨Rect.unit (s := S96x7168) ![0, 1792] S96x128.size inb_S96x7168_S96x128_0_1792, p14⟩,
      ⟨Rect.unit (s := S96x7168) ![0, 1664] S96x128.size inb_S96x7168_S96x128_0_1664, p13⟩,
      ⟨Rect.unit (s := S96x7168) ![0, 1536] S96x128.size inb_S96x7168_S96x128_0_1536, p12⟩,
      ⟨Rect.unit (s := S96x7168) ![0, 1408] S96x128.size inb_S96x7168_S96x128_0_1408, p11⟩,
      ⟨Rect.unit (s := S96x7168) ![0, 1280] S96x128.size inb_S96x7168_S96x128_0_1280, p10⟩,
      ⟨Rect.unit (s := S96x7168) ![0, 1152] S96x128.size inb_S96x7168_S96x128_0_1152, p9⟩,
      ⟨Rect.unit (s := S96x7168) ![0, 1024] S96x128.size inb_S96x7168_S96x128_0_1024, p8⟩,
      ⟨Rect.unit (s := S96x7168) ![0, 896] S96x128.size inb_S96x7168_S96x128_0_896, p7⟩,
      ⟨Rect.unit (s := S96x7168) ![0, 768] S96x128.size inb_S96x7168_S96x128_0_768, p6⟩,
      ⟨Rect.unit (s := S96x7168) ![0, 640] S96x128.size inb_S96x7168_S96x128_0_640, p5⟩,
      ⟨Rect.unit (s := S96x7168) ![0, 512] S96x128.size inb_S96x7168_S96x128_0_512, p4⟩,
      ⟨Rect.unit (s := S96x7168) ![0, 384] S96x128.size inb_S96x7168_S96x128_0_384, p3⟩,
      ⟨Rect.unit (s := S96x7168) ![0, 256] S96x128.size inb_S96x7168_S96x128_0_256, p2⟩,
      ⟨Rect.unit (s := S96x7168) ![0, 128] S96x128.size inb_S96x7168_S96x128_0_128, p1⟩,
      ⟨Rect.unit (s := S96x7168) ![0, 0] S96x128.size inb_S96x7168_S96x128_0_0, p0⟩] : List (View.Piece (Elt Ideal) S96x7168 .fp8e4m3)) S96x128.size (by rfl) y

set_option maxHeartbeats 2000000 in
/-- The 56 stores, one per group, leave the codes. -/
theorem codes_read (v : View sig .tc .vmem S96x7168 .fp8e4m3) (f : v.ty.Contents (Elt Ideal)) (s : Vec Ideal S96x1 .f32)
    (x0 : Vec Ideal S96x56x128 .f32) :
    v.read (Elt Ideal) (v.writes (Elt Ideal) f [⟨Rect.unit (s := S96x7168) ![0, 7040] S96x128.size inb_S96x7168_S96x128_0_7040, k0_pay20 (F := Ideal) s (sl x0 55)⟩,
      ⟨Rect.unit (s := S96x7168) ![0, 6912] S96x128.size inb_S96x7168_S96x128_0_6912, k0_pay20 (F := Ideal) s (sl x0 54)⟩,
      ⟨Rect.unit (s := S96x7168) ![0, 6784] S96x128.size inb_S96x7168_S96x128_0_6784, k0_pay20 (F := Ideal) s (sl x0 53)⟩,
      ⟨Rect.unit (s := S96x7168) ![0, 6656] S96x128.size inb_S96x7168_S96x128_0_6656, k0_pay20 (F := Ideal) s (sl x0 52)⟩,
      ⟨Rect.unit (s := S96x7168) ![0, 6528] S96x128.size inb_S96x7168_S96x128_0_6528, k0_pay20 (F := Ideal) s (sl x0 51)⟩,
      ⟨Rect.unit (s := S96x7168) ![0, 6400] S96x128.size inb_S96x7168_S96x128_0_6400, k0_pay20 (F := Ideal) s (sl x0 50)⟩,
      ⟨Rect.unit (s := S96x7168) ![0, 6272] S96x128.size inb_S96x7168_S96x128_0_6272, k0_pay20 (F := Ideal) s (sl x0 49)⟩,
      ⟨Rect.unit (s := S96x7168) ![0, 6144] S96x128.size inb_S96x7168_S96x128_0_6144, k0_pay20 (F := Ideal) s (sl x0 48)⟩,
      ⟨Rect.unit (s := S96x7168) ![0, 6016] S96x128.size inb_S96x7168_S96x128_0_6016, k0_pay20 (F := Ideal) s (sl x0 47)⟩,
      ⟨Rect.unit (s := S96x7168) ![0, 5888] S96x128.size inb_S96x7168_S96x128_0_5888, k0_pay20 (F := Ideal) s (sl x0 46)⟩,
      ⟨Rect.unit (s := S96x7168) ![0, 5760] S96x128.size inb_S96x7168_S96x128_0_5760, k0_pay20 (F := Ideal) s (sl x0 45)⟩,
      ⟨Rect.unit (s := S96x7168) ![0, 5632] S96x128.size inb_S96x7168_S96x128_0_5632, k0_pay20 (F := Ideal) s (sl x0 44)⟩,
      ⟨Rect.unit (s := S96x7168) ![0, 5504] S96x128.size inb_S96x7168_S96x128_0_5504, k0_pay20 (F := Ideal) s (sl x0 43)⟩,
      ⟨Rect.unit (s := S96x7168) ![0, 5376] S96x128.size inb_S96x7168_S96x128_0_5376, k0_pay20 (F := Ideal) s (sl x0 42)⟩,
      ⟨Rect.unit (s := S96x7168) ![0, 5248] S96x128.size inb_S96x7168_S96x128_0_5248, k0_pay20 (F := Ideal) s (sl x0 41)⟩,
      ⟨Rect.unit (s := S96x7168) ![0, 5120] S96x128.size inb_S96x7168_S96x128_0_5120, k0_pay20 (F := Ideal) s (sl x0 40)⟩,
      ⟨Rect.unit (s := S96x7168) ![0, 4992] S96x128.size inb_S96x7168_S96x128_0_4992, k0_pay20 (F := Ideal) s (sl x0 39)⟩,
      ⟨Rect.unit (s := S96x7168) ![0, 4864] S96x128.size inb_S96x7168_S96x128_0_4864, k0_pay20 (F := Ideal) s (sl x0 38)⟩,
      ⟨Rect.unit (s := S96x7168) ![0, 4736] S96x128.size inb_S96x7168_S96x128_0_4736, k0_pay20 (F := Ideal) s (sl x0 37)⟩,
      ⟨Rect.unit (s := S96x7168) ![0, 4608] S96x128.size inb_S96x7168_S96x128_0_4608, k0_pay20 (F := Ideal) s (sl x0 36)⟩,
      ⟨Rect.unit (s := S96x7168) ![0, 4480] S96x128.size inb_S96x7168_S96x128_0_4480, k0_pay20 (F := Ideal) s (sl x0 35)⟩,
      ⟨Rect.unit (s := S96x7168) ![0, 4352] S96x128.size inb_S96x7168_S96x128_0_4352, k0_pay20 (F := Ideal) s (sl x0 34)⟩,
      ⟨Rect.unit (s := S96x7168) ![0, 4224] S96x128.size inb_S96x7168_S96x128_0_4224, k0_pay20 (F := Ideal) s (sl x0 33)⟩,
      ⟨Rect.unit (s := S96x7168) ![0, 4096] S96x128.size inb_S96x7168_S96x128_0_4096, k0_pay20 (F := Ideal) s (sl x0 32)⟩,
      ⟨Rect.unit (s := S96x7168) ![0, 3968] S96x128.size inb_S96x7168_S96x128_0_3968, k0_pay20 (F := Ideal) s (sl x0 31)⟩,
      ⟨Rect.unit (s := S96x7168) ![0, 3840] S96x128.size inb_S96x7168_S96x128_0_3840, k0_pay20 (F := Ideal) s (sl x0 30)⟩,
      ⟨Rect.unit (s := S96x7168) ![0, 3712] S96x128.size inb_S96x7168_S96x128_0_3712, k0_pay20 (F := Ideal) s (sl x0 29)⟩,
      ⟨Rect.unit (s := S96x7168) ![0, 3584] S96x128.size inb_S96x7168_S96x128_0_3584, k0_pay20 (F := Ideal) s (sl x0 28)⟩,
      ⟨Rect.unit (s := S96x7168) ![0, 3456] S96x128.size inb_S96x7168_S96x128_0_3456, k0_pay20 (F := Ideal) s (sl x0 27)⟩,
      ⟨Rect.unit (s := S96x7168) ![0, 3328] S96x128.size inb_S96x7168_S96x128_0_3328, k0_pay20 (F := Ideal) s (sl x0 26)⟩,
      ⟨Rect.unit (s := S96x7168) ![0, 3200] S96x128.size inb_S96x7168_S96x128_0_3200, k0_pay20 (F := Ideal) s (sl x0 25)⟩,
      ⟨Rect.unit (s := S96x7168) ![0, 3072] S96x128.size inb_S96x7168_S96x128_0_3072, k0_pay20 (F := Ideal) s (sl x0 24)⟩,
      ⟨Rect.unit (s := S96x7168) ![0, 2944] S96x128.size inb_S96x7168_S96x128_0_2944, k0_pay20 (F := Ideal) s (sl x0 23)⟩,
      ⟨Rect.unit (s := S96x7168) ![0, 2816] S96x128.size inb_S96x7168_S96x128_0_2816, k0_pay20 (F := Ideal) s (sl x0 22)⟩,
      ⟨Rect.unit (s := S96x7168) ![0, 2688] S96x128.size inb_S96x7168_S96x128_0_2688, k0_pay20 (F := Ideal) s (sl x0 21)⟩,
      ⟨Rect.unit (s := S96x7168) ![0, 2560] S96x128.size inb_S96x7168_S96x128_0_2560, k0_pay20 (F := Ideal) s (sl x0 20)⟩,
      ⟨Rect.unit (s := S96x7168) ![0, 2432] S96x128.size inb_S96x7168_S96x128_0_2432, k0_pay20 (F := Ideal) s (sl x0 19)⟩,
      ⟨Rect.unit (s := S96x7168) ![0, 2304] S96x128.size inb_S96x7168_S96x128_0_2304, k0_pay20 (F := Ideal) s (sl x0 18)⟩,
      ⟨Rect.unit (s := S96x7168) ![0, 2176] S96x128.size inb_S96x7168_S96x128_0_2176, k0_pay20 (F := Ideal) s (sl x0 17)⟩,
      ⟨Rect.unit (s := S96x7168) ![0, 2048] S96x128.size inb_S96x7168_S96x128_0_2048, k0_pay20 (F := Ideal) s (sl x0 16)⟩,
      ⟨Rect.unit (s := S96x7168) ![0, 1920] S96x128.size inb_S96x7168_S96x128_0_1920, k0_pay20 (F := Ideal) s (sl x0 15)⟩,
      ⟨Rect.unit (s := S96x7168) ![0, 1792] S96x128.size inb_S96x7168_S96x128_0_1792, k0_pay20 (F := Ideal) s (sl x0 14)⟩,
      ⟨Rect.unit (s := S96x7168) ![0, 1664] S96x128.size inb_S96x7168_S96x128_0_1664, k0_pay20 (F := Ideal) s (sl x0 13)⟩,
      ⟨Rect.unit (s := S96x7168) ![0, 1536] S96x128.size inb_S96x7168_S96x128_0_1536, k0_pay20 (F := Ideal) s (sl x0 12)⟩,
      ⟨Rect.unit (s := S96x7168) ![0, 1408] S96x128.size inb_S96x7168_S96x128_0_1408, k0_pay20 (F := Ideal) s (sl x0 11)⟩,
      ⟨Rect.unit (s := S96x7168) ![0, 1280] S96x128.size inb_S96x7168_S96x128_0_1280, k0_pay20 (F := Ideal) s (sl x0 10)⟩,
      ⟨Rect.unit (s := S96x7168) ![0, 1152] S96x128.size inb_S96x7168_S96x128_0_1152, k0_pay20 (F := Ideal) s (sl x0 9)⟩,
      ⟨Rect.unit (s := S96x7168) ![0, 1024] S96x128.size inb_S96x7168_S96x128_0_1024, k0_pay20 (F := Ideal) s (sl x0 8)⟩,
      ⟨Rect.unit (s := S96x7168) ![0, 896] S96x128.size inb_S96x7168_S96x128_0_896, k0_pay20 (F := Ideal) s (sl x0 7)⟩,
      ⟨Rect.unit (s := S96x7168) ![0, 768] S96x128.size inb_S96x7168_S96x128_0_768, k0_pay20 (F := Ideal) s (sl x0 6)⟩,
      ⟨Rect.unit (s := S96x7168) ![0, 640] S96x128.size inb_S96x7168_S96x128_0_640, k0_pay20 (F := Ideal) s (sl x0 5)⟩,
      ⟨Rect.unit (s := S96x7168) ![0, 512] S96x128.size inb_S96x7168_S96x128_0_512, k0_pay20 (F := Ideal) s (sl x0 4)⟩,
      ⟨Rect.unit (s := S96x7168) ![0, 384] S96x128.size inb_S96x7168_S96x128_0_384, k0_pay20 (F := Ideal) s (sl x0 3)⟩,
      ⟨Rect.unit (s := S96x7168) ![0, 256] S96x128.size inb_S96x7168_S96x128_0_256, k0_pay20 (F := Ideal) s (sl x0 2)⟩,
      ⟨Rect.unit (s := S96x7168) ![0, 128] S96x128.size inb_S96x7168_S96x128_0_128, k0_pay20 (F := Ideal) s (sl x0 1)⟩,
      ⟨Rect.unit (s := S96x7168) ![0, 0] S96x128.size inb_S96x7168_S96x128_0_0, k0_pay20 (F := Ideal) s (sl x0 0)⟩]) = oqc s x0 := by
  funext y
  refine View.read_writes_apply_of_pieces _ _ (oqc s x0) _ (fun p hp x => ?_) y (coverQ _ _ _ _ _ _ _ _ _ _ _ _ _ _ _ _ _ _ _ _ _ _ _ _ _ _ _ _ _ _ _ _ _ _ _ _ _ _ _ _ _ _ _ _ _ _ _ _ _ _ _ _ _ _ _ _ y)
  have key : ∀ (j : ℕ) (hj : j < 56) (o : ℕ) (ho : o = 128 * j) (inb : ∀ a, (![0, o] : Fin 2 → ℕ) a + S96x128.size a ≤ S96x7168.size a)
      (x : S96x128.Idx), k0_pay20 (F := Ideal) s (sl x0 j) x = oqc s x0 ((Rect.unit (s := S96x7168) ![0, o] S96x128.size inb).emb x) := fun j hj o ho inb x => by
    subst ho
    have h2 : (x 1).val < 128 := (x 1).isLt
    have e1 : (((Rect.unit (s := S96x7168) ![0, 128 * j] S96x128.size inb).emb x) 1).val = 128 * j + 1 * (x 1).val := rfl
    unfold oqc
    rw [show (((Rect.unit (s := S96x7168) ![0, 128 * j] S96x128.size inb).emb x) 1).val / 128 = j by rw [e1]; omega]
    congr 1
    funext a; fin_cases a <;> apply Fin.ext
    · show (x 0).val = 0 + 1 * (x 0).val; omega
    · show (x 1).val = (128 * j + 1 * (x 1).val) % 128; omega
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact key 55 (by decide) _ (by decide) inb_S96x7168_S96x128_0_7040 x
  · exact key 54 (by decide) _ (by decide) inb_S96x7168_S96x128_0_6912 x
  · exact key 53 (by decide) _ (by decide) inb_S96x7168_S96x128_0_6784 x
  · exact key 52 (by decide) _ (by decide) inb_S96x7168_S96x128_0_6656 x
  · exact key 51 (by decide) _ (by decide) inb_S96x7168_S96x128_0_6528 x
  · exact key 50 (by decide) _ (by decide) inb_S96x7168_S96x128_0_6400 x
  · exact key 49 (by decide) _ (by decide) inb_S96x7168_S96x128_0_6272 x
  · exact key 48 (by decide) _ (by decide) inb_S96x7168_S96x128_0_6144 x
  · exact key 47 (by decide) _ (by decide) inb_S96x7168_S96x128_0_6016 x
  · exact key 46 (by decide) _ (by decide) inb_S96x7168_S96x128_0_5888 x
  · exact key 45 (by decide) _ (by decide) inb_S96x7168_S96x128_0_5760 x
  · exact key 44 (by decide) _ (by decide) inb_S96x7168_S96x128_0_5632 x
  · exact key 43 (by decide) _ (by decide) inb_S96x7168_S96x128_0_5504 x
  · exact key 42 (by decide) _ (by decide) inb_S96x7168_S96x128_0_5376 x
  · exact key 41 (by decide) _ (by decide) inb_S96x7168_S96x128_0_5248 x
  · exact key 40 (by decide) _ (by decide) inb_S96x7168_S96x128_0_5120 x
  · exact key 39 (by decide) _ (by decide) inb_S96x7168_S96x128_0_4992 x
  · exact key 38 (by decide) _ (by decide) inb_S96x7168_S96x128_0_4864 x
  · exact key 37 (by decide) _ (by decide) inb_S96x7168_S96x128_0_4736 x
  · exact key 36 (by decide) _ (by decide) inb_S96x7168_S96x128_0_4608 x
  · exact key 35 (by decide) _ (by decide) inb_S96x7168_S96x128_0_4480 x
  · exact key 34 (by decide) _ (by decide) inb_S96x7168_S96x128_0_4352 x
  · exact key 33 (by decide) _ (by decide) inb_S96x7168_S96x128_0_4224 x
  · exact key 32 (by decide) _ (by decide) inb_S96x7168_S96x128_0_4096 x
  · exact key 31 (by decide) _ (by decide) inb_S96x7168_S96x128_0_3968 x
  · exact key 30 (by decide) _ (by decide) inb_S96x7168_S96x128_0_3840 x
  · exact key 29 (by decide) _ (by decide) inb_S96x7168_S96x128_0_3712 x
  · exact key 28 (by decide) _ (by decide) inb_S96x7168_S96x128_0_3584 x
  · exact key 27 (by decide) _ (by decide) inb_S96x7168_S96x128_0_3456 x
  · exact key 26 (by decide) _ (by decide) inb_S96x7168_S96x128_0_3328 x
  · exact key 25 (by decide) _ (by decide) inb_S96x7168_S96x128_0_3200 x
  · exact key 24 (by decide) _ (by decide) inb_S96x7168_S96x128_0_3072 x
  · exact key 23 (by decide) _ (by decide) inb_S96x7168_S96x128_0_2944 x
  · exact key 22 (by decide) _ (by decide) inb_S96x7168_S96x128_0_2816 x
  · exact key 21 (by decide) _ (by decide) inb_S96x7168_S96x128_0_2688 x
  · exact key 20 (by decide) _ (by decide) inb_S96x7168_S96x128_0_2560 x
  · exact key 19 (by decide) _ (by decide) inb_S96x7168_S96x128_0_2432 x
  · exact key 18 (by decide) _ (by decide) inb_S96x7168_S96x128_0_2304 x
  · exact key 17 (by decide) _ (by decide) inb_S96x7168_S96x128_0_2176 x
  · exact key 16 (by decide) _ (by decide) inb_S96x7168_S96x128_0_2048 x
  · exact key 15 (by decide) _ (by decide) inb_S96x7168_S96x128_0_1920 x
  · exact key 14 (by decide) _ (by decide) inb_S96x7168_S96x128_0_1792 x
  · exact key 13 (by decide) _ (by decide) inb_S96x7168_S96x128_0_1664 x
  · exact key 12 (by decide) _ (by decide) inb_S96x7168_S96x128_0_1536 x
  · exact key 11 (by decide) _ (by decide) inb_S96x7168_S96x128_0_1408 x
  · exact key 10 (by decide) _ (by decide) inb_S96x7168_S96x128_0_1280 x
  · exact key 9 (by decide) _ (by decide) inb_S96x7168_S96x128_0_1152 x
  · exact key 8 (by decide) _ (by decide) inb_S96x7168_S96x128_0_1024 x
  · exact key 7 (by decide) _ (by decide) inb_S96x7168_S96x128_0_896 x
  · exact key 6 (by decide) _ (by decide) inb_S96x7168_S96x128_0_768 x
  · exact key 5 (by decide) _ (by decide) inb_S96x7168_S96x128_0_640 x
  · exact key 4 (by decide) _ (by decide) inb_S96x7168_S96x128_0_512 x
  · exact key 3 (by decide) _ (by decide) inb_S96x7168_S96x128_0_384 x
  · exact key 2 (by decide) _ (by decide) inb_S96x7168_S96x128_0_256 x
  · exact key 1 (by decide) _ (by decide) inb_S96x7168_S96x128_0_128 x
  · exact key 0 (by decide) _ (by decide) inb_S96x7168_S96x128_0_0 x

/-- A 1024 column tile laid out as eight groups of 128 columns. -/
def grp (T : Vec Ideal S96x1024 .f32) : Vec Ideal S96x8x128 .f32 := fun y =>
  T (ix2 (y 0) ⟨(y 1).val * 128 + (y 2).val, by
    have h1 : (y 1).val < 8 := (y 1).isLt
    have h2 : (y 2).val < 128 := (y 2).isLt
    omega⟩)

/-- A load of a whole buffer that holds `x` reads `x`. -/
theorem rd {s : Shape} {e : EltTy} (a : Memref sig .tc .vmem s e) (ha : a.IsWhole) (x : Vec Ideal s e) {off : Fin s.rank → ℕ}
    (inb : ∀ k, off k + s.size k ≤ s.size k) :
    View.readAt (Elt Ideal) a.view (Rect.unit off s.size inb).toLoadRect (ha.unread x) = x :=
  (View.readAt_full _ _ inb).trans (ha.read_unread _)

/-- The eight groups of a tile cover the block of groups. -/
theorem cover (p0 p1 p2 p3 p4 p5 p6 p7 : Vec Ideal S96x1x128 .f32) (y : S96x8x128.Idx) :
    ∃ p ∈ ([⟨Rect.unit (s := S96x8x128) ![0, 7, 0] S96x1x128.size inb_S96x8x128_S96x1x128_0_7_0, p7⟩,
      ⟨Rect.unit (s := S96x8x128) ![0, 6, 0] S96x1x128.size inb_S96x8x128_S96x1x128_0_6_0, p6⟩,
      ⟨Rect.unit (s := S96x8x128) ![0, 5, 0] S96x1x128.size inb_S96x8x128_S96x1x128_0_5_0, p5⟩,
      ⟨Rect.unit (s := S96x8x128) ![0, 4, 0] S96x1x128.size inb_S96x8x128_S96x1x128_0_4_0, p4⟩,
      ⟨Rect.unit (s := S96x8x128) ![0, 3, 0] S96x1x128.size inb_S96x8x128_S96x1x128_0_3_0, p3⟩,
      ⟨Rect.unit (s := S96x8x128) ![0, 2, 0] S96x1x128.size inb_S96x8x128_S96x1x128_0_2_0, p2⟩,
      ⟨Rect.unit (s := S96x8x128) ![0, 1, 0] S96x1x128.size inb_S96x8x128_S96x1x128_0_1_0, p1⟩,
      ⟨Rect.unit (s := S96x8x128) ![0, 0, 0] S96x1x128.size inb_S96x8x128_S96x1x128_0_0_0, p0⟩] : List (View.Piece (Elt Ideal) S96x8x128 .f32)), y ∈ p.1.set :=
  View.cover_of_tiled [⟨Rect.unit (s := S96x8x128) ![0, 7, 0] S96x1x128.size inb_S96x8x128_S96x1x128_0_7_0, p7⟩,
      ⟨Rect.unit (s := S96x8x128) ![0, 6, 0] S96x1x128.size inb_S96x8x128_S96x1x128_0_6_0, p6⟩,
      ⟨Rect.unit (s := S96x8x128) ![0, 5, 0] S96x1x128.size inb_S96x8x128_S96x1x128_0_5_0, p5⟩,
      ⟨Rect.unit (s := S96x8x128) ![0, 4, 0] S96x1x128.size inb_S96x8x128_S96x1x128_0_4_0, p4⟩,
      ⟨Rect.unit (s := S96x8x128) ![0, 3, 0] S96x1x128.size inb_S96x8x128_S96x1x128_0_3_0, p3⟩,
      ⟨Rect.unit (s := S96x8x128) ![0, 2, 0] S96x1x128.size inb_S96x8x128_S96x1x128_0_2_0, p2⟩,
      ⟨Rect.unit (s := S96x8x128) ![0, 1, 0] S96x1x128.size inb_S96x8x128_S96x1x128_0_1_0, p1⟩,
      ⟨Rect.unit (s := S96x8x128) ![0, 0, 0] S96x1x128.size inb_S96x8x128_S96x1x128_0_0_0, p0⟩] S96x1x128.size (by rfl) y

/-- Eight stores, one per group, leave the tile they were cut from. -/
theorem grp_read (v : View sig .tc .vmem S96x8x128 .f32) (f : v.ty.Contents (Elt Ideal)) (T : Vec Ideal S96x1024 .f32)
    (p0 p1 p2 p3 p4 p5 p6 p7 : Vec Ideal S96x1x128 .f32)
    (h : ∀ (r : Fin 96) (l : Fin 128), p0 (ix3 r 0 l) = T (ix2 r ⟨0 * 128 + l.val, by omega⟩) ∧ p1 (ix3 r 0 l) = T (ix2 r ⟨1 * 128 + l.val, by omega⟩)
      ∧ p2 (ix3 r 0 l) = T (ix2 r ⟨2 * 128 + l.val, by omega⟩) ∧ p3 (ix3 r 0 l) = T (ix2 r ⟨3 * 128 + l.val, by omega⟩)
      ∧ p4 (ix3 r 0 l) = T (ix2 r ⟨4 * 128 + l.val, by omega⟩) ∧ p5 (ix3 r 0 l) = T (ix2 r ⟨5 * 128 + l.val, by omega⟩)
      ∧ p6 (ix3 r 0 l) = T (ix2 r ⟨6 * 128 + l.val, by omega⟩) ∧ p7 (ix3 r 0 l) = T (ix2 r ⟨7 * 128 + l.val, by omega⟩)) :
    v.read (Elt Ideal) (v.writes (Elt Ideal) f [⟨Rect.unit (s := S96x8x128) ![0, 7, 0] S96x1x128.size inb_S96x8x128_S96x1x128_0_7_0, p7⟩,
      ⟨Rect.unit (s := S96x8x128) ![0, 6, 0] S96x1x128.size inb_S96x8x128_S96x1x128_0_6_0, p6⟩,
      ⟨Rect.unit (s := S96x8x128) ![0, 5, 0] S96x1x128.size inb_S96x8x128_S96x1x128_0_5_0, p5⟩,
      ⟨Rect.unit (s := S96x8x128) ![0, 4, 0] S96x1x128.size inb_S96x8x128_S96x1x128_0_4_0, p4⟩,
      ⟨Rect.unit (s := S96x8x128) ![0, 3, 0] S96x1x128.size inb_S96x8x128_S96x1x128_0_3_0, p3⟩,
      ⟨Rect.unit (s := S96x8x128) ![0, 2, 0] S96x1x128.size inb_S96x8x128_S96x1x128_0_2_0, p2⟩,
      ⟨Rect.unit (s := S96x8x128) ![0, 1, 0] S96x1x128.size inb_S96x8x128_S96x1x128_0_1_0, p1⟩,
      ⟨Rect.unit (s := S96x8x128) ![0, 0, 0] S96x1x128.size inb_S96x8x128_S96x1x128_0_0_0, p0⟩]) = grp T := by
  funext y
  refine View.read_writes_apply_of_pieces _ _ (grp T) _ (fun p hp x => ?_) y (cover p0 p1 p2 p3 p4 p5 p6 p7 y)
  have key : ∀ (q : Vec Ideal S96x1x128 .f32) (o : ℕ) (ho : o < 8) (inb : ∀ a, (![0, o, 0] : Fin 3 → ℕ) a + S96x1x128.size a ≤ S96x8x128.size a)
      (hq : ∀ (r : Fin 96) (l : Fin 128), q (ix3 r 0 l) = T (ix2 r ⟨o * 128 + l.val, by omega⟩)) (x : S96x1x128.Idx),
      q x = grp T ((Rect.unit (s := S96x8x128) ![0, o, 0] S96x1x128.size inb).emb x) := fun q o ho inb hq x => by
    have e : x = ix3 (x 0) 0 (x 2) := by
      funext a; fin_cases a
      · rfl
      · exact Subsingleton.elim (α := Fin 1) _ _
      · rfl
    have h1 : (x 1).val = 0 := by have : (x 1).val < 1 := (x 1).isLt; omega
    refine (congrArg q e).trans ((hq (x 0) (x 2)).trans ?_)
    unfold grp
    congr 1
    funext a; fin_cases a <;> apply Fin.ext
    · show (x 0).val = 0 + 1 * (x 0).val; omega
    · show o * 128 + (x 2).val = (o + 1 * (x 1).val) * 128 + (0 + 1 * (x 2).val); rw [h1]; omega
  simp only [List.mem_cons, List.not_mem_nil, or_false] at hp
  rcases hp with rfl | rfl | rfl | rfl | rfl | rfl | rfl | rfl
  · exact key p7 7 (by omega) inb_S96x8x128_S96x1x128_0_7_0 (fun r l => (h r l).2.2.2.2.2.2.2) x
  · exact key p6 6 (by omega) inb_S96x8x128_S96x1x128_0_6_0 (fun r l => (h r l).2.2.2.2.2.2.1) x
  · exact key p5 5 (by omega) inb_S96x8x128_S96x1x128_0_5_0 (fun r l => (h r l).2.2.2.2.2.1) x
  · exact key p4 4 (by omega) inb_S96x8x128_S96x1x128_0_4_0 (fun r l => (h r l).2.2.2.2.1) x
  · exact key p3 3 (by omega) inb_S96x8x128_S96x1x128_0_3_0 (fun r l => (h r l).2.2.2.1) x
  · exact key p2 2 (by omega) inb_S96x8x128_S96x1x128_0_2_0 (fun r l => (h r l).2.2.1) x
  · exact key p1 1 (by omega) inb_S96x8x128_S96x1x128_0_1_0 (fun r l => (h r l).2.1) x
  · exact key p0 0 (by omega) inb_S96x8x128_S96x1x128_0_0_0 (fun r l => (h r l).1) x

/-- The tile of a point, cut in groups. -/
theorem tile_groups (T : Vec Ideal S96x1024 .f32) (a : Vec Ideal S96x7168 .fp8e4m3) (b : Vec Ideal S7168x1024 .fp8e4m3) (c : Vec Ideal S96x1 .f32)
    (d : Vec Ideal S1x1024 .f32) (hT : k0_pay85 a b c d = T) (r : Fin 96) (l : Fin 128) :
    k0_pay86 (F := Ideal) a b c d (ix3 r 0 l) = T (ix2 r ⟨0 * 128 + l.val, by omega⟩) ∧ k0_pay87 (F := Ideal) a b c d (ix3 r 0 l) = T (ix2 r ⟨1 * 128 + l.val, by omega⟩)
      ∧ k0_pay88 (F := Ideal) a b c d (ix3 r 0 l) = T (ix2 r ⟨2 * 128 + l.val, by omega⟩) ∧ k0_pay89 (F := Ideal) a b c d (ix3 r 0 l) = T (ix2 r ⟨3 * 128 + l.val, by omega⟩)
      ∧ k0_pay1 (F := Ideal) T (ix3 r 0 l) = T (ix2 r ⟨4 * 128 + l.val, by omega⟩) ∧ k0_pay2 (F := Ideal) T (ix3 r 0 l) = T (ix2 r ⟨5 * 128 + l.val, by omega⟩)
      ∧ k0_pay3 (F := Ideal) T (ix3 r 0 l) = T (ix2 r ⟨6 * 128 + l.val, by omega⟩) ∧ k0_pay4 (F := Ideal) T (ix3 r 0 l) = T (ix2 r ⟨7 * 128 + l.val, by omega⟩) := by
  unfold k0_pay86 k0_pay87 k0_pay88 k0_pay89
  rw [hT]
  refine ⟨?_, ?_, ?_, ?_, ?_, ?_, ?_, ?_⟩
  · pointwise []
  · pointwise []
  · pointwise []
  · pointwise []
  · pointwise [k0_pay1]
  · pointwise [k0_pay2]
  · pointwise [k0_pay3]
  · pointwise [k0_pay4]

theorem pay85_congr {a a' : Vec Ideal S96x7168 .fp8e4m3} {b b' : Vec Ideal S7168x1024 .fp8e4m3} {c c' : Vec Ideal S96x1 .f32}
    {d d' : Vec Ideal S1x1024 .f32} (ha : a = a') (hb : b = b') (hc : c = c') (hd : d = d') :
    k0_pay85 a b c d = k0_pay85 a' b' c' d' := by rw [ha, hb, hc, hd]

set_option maxHeartbeats 8000000 in
/-- A point that is neither the first nor the last: it reads the codes and scales kept from the first. -/
theorem kernelRun0_B (c : Dev nD) (i : grid0.Coords) (arg1 : Memref sig .tc .vmem S96x56x128 .f32) (harg1 : arg1.IsWhole) (arg2 : Memref sig .tc .vmem S96x1024 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S1x4096 .f32) (harg5 : arg5.IsWhole) (arg6 : Memref sig .tc .vmem S96x8x128 .f32) (harg6 : arg6.IsWhole) (arg7 : Memref sig .tc .vmem S96x7168 .fp8e4m3) (harg7 : arg7.IsWhole) (arg8 : Memref sig .tc .vmem S96x1 .f32) (harg8 : arg8.IsWhole) (arg9 : Memref sig .tc .vmem S96x4096 .f32) (harg9 : arg9.IsWhole) (arg10 : Memref sig .tc .vmem S96x4096 .fp8e4m3) (harg10 : arg10.IsWhole) (arg11 : Memref sig .tc .vmem S96x1 .f32) (harg11 : arg11.IsWhole) (hc0 : ¬cond0_0 i) (hc1 : ¬cond0_1 i)
    (x0 : Vec Ideal S96x56x128 .f32) (x1 : Vec Ideal S96x1024 .bf16) (x2 : Vec Ideal S7168x1024 .fp8e4m3) (x3 : Vec Ideal S1x1024 .f32) (x4 : Vec Ideal S1x4096 .f32) (q : Vec Ideal S96x7168 .fp8e4m3) (s : Vec Ideal S96x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare q ∗ owns (c : Thread nD τ) arg8 fullShare s ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (grp (k0_pay85 (F := Ideal) q x2 s x3)) ∗ owns (c : Thread nD τ) arg7 fullShare q ∗ owns (c : Thread nD τ) arg8 fullShare s ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_outproj i arg1 harg1 arg2 harg2 arg3 harg3 arg4 harg4 arg5 harg5 arg6 harg6 arg7 harg7 arg8 harg8 arg9 harg9 arg10 harg10 arg11 harg11) K := by
    intro E K
    simp only [cc0_outproj_eq_skeleton]; unfold cc0_outproj_skel
    simp only [k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      have hT := pay85_congr (rd arg7 harg7 q inb_S96x7168_S96x7168_0_0) (rd arg3 harg3 x2 inb_S7168x1024_S7168x1024_0_0)
          (rd arg8 harg8 s inb_S96x1_S96x1_0_0) (rd arg4 harg4 x3 inb_S1x1024_S1x1024_0_0)
      exact grp_read arg6.view _ (k0_pay85 (F := Ideal) q x2 s x3) _ _ _ _ _ _ _ _ (fun r l => hT ▸ tile_groups _ _ _ _ _ rfl r l)
    isplitl [H6]
    · iexists _; isplitr; · ipureintro; exact harg7.read_unread _
      iexact H6
    isplitl [H7]
    · iexists _; isplitr; · ipureintro; exact harg8.read_unread _
      iexact H7
    isplitl [H8]
    · iexists _; iexists _; isplitr; swap; · iexact H8
      ipureintro; rfl
    isplitl [H9]
    · iexists _; iexists _; isplitr; swap; · iexact H9
      ipureintro; rfl
    iexists _; iexists _; isplitr; swap; · iexact H10
    ipureintro; rfl

set_option maxHeartbeats 8000000 in
/-- The last point: it reads the codes and scales kept from the first. -/
theorem kernelRun0_C (c : Dev nD) (i : grid0.Coords) (arg1 : Memref sig .tc .vmem S96x56x128 .f32) (harg1 : arg1.IsWhole) (arg2 : Memref sig .tc .vmem S96x1024 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S1x4096 .f32) (harg5 : arg5.IsWhole) (arg6 : Memref sig .tc .vmem S96x8x128 .f32) (harg6 : arg6.IsWhole) (arg7 : Memref sig .tc .vmem S96x7168 .fp8e4m3) (harg7 : arg7.IsWhole) (arg8 : Memref sig .tc .vmem S96x1 .f32) (harg8 : arg8.IsWhole) (arg9 : Memref sig .tc .vmem S96x4096 .f32) (harg9 : arg9.IsWhole) (arg10 : Memref sig .tc .vmem S96x4096 .fp8e4m3) (harg10 : arg10.IsWhole) (arg11 : Memref sig .tc .vmem S96x1 .f32) (harg11 : arg11.IsWhole) (hc0 : ¬cond0_0 i) (hc1 : cond0_1 i)
    (x0 : Vec Ideal S96x56x128 .f32) (x1 : Vec Ideal S96x1024 .bf16) (x2 : Vec Ideal S7168x1024 .fp8e4m3) (x3 : Vec Ideal S1x1024 .f32) (x4 : Vec Ideal S1x4096 .f32) (q : Vec Ideal S96x7168 .fp8e4m3) (s : Vec Ideal S96x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare q ∗ owns (c : Thread nD τ) arg8 fullShare s ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (grp (k0_pay85 (F := Ideal) q x2 s x3)) ∗ owns (c : Thread nD τ) arg7 fullShare q ∗ owns (c : Thread nD τ) arg8 fullShare s ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_outproj i arg1 harg1 arg2 harg2 arg3 harg3 arg4 harg4 arg5 harg5 arg6 harg6 arg7 harg7 arg8 harg8 arg9 harg9 arg10 harg10 arg11 harg11) K := by
    intro E K
    simp only [cc0_outproj_eq_skeleton]; unfold cc0_outproj_skel
    simp only [k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      have hT := pay85_congr (rd arg7 harg7 q inb_S96x7168_S96x7168_0_0) (rd arg3 harg3 x2 inb_S7168x1024_S7168x1024_0_0)
          (rd arg8 harg8 s inb_S96x1_S96x1_0_0) (rd arg4 harg4 x3 inb_S1x1024_S1x1024_0_0)
      exact grp_read arg6.view _ (k0_pay85 (F := Ideal) q x2 s x3) _ _ _ _ _ _ _ _ (fun r l => hT ▸ tile_groups _ _ _ _ _ rfl r l)
    isplitl [H6]
    · iexists _; isplitr; · ipureintro; exact harg7.read_unread _
      iexact H6
    isplitl [H7]
    · iexists _; isplitr; · ipureintro; exact harg8.read_unread _
      iexact H7
    isplitl [H8]
    · iexists _; iexists _; isplitr; swap; · iexact H8
      ipureintro; rfl
    isplitl [H9]
    · iexists _; iexists _; isplitr; swap; · iexact H9
      ipureintro; rfl
    iexists _; iexists _; isplitr; swap; · iexact H10
    ipureintro; rfl

end Cert.OutProjIdeal.Gen.Whole
-- ==== Proof.OutProjRunA.lean ====
/- The whole run of the output projection over the reals, at the first point. -/
module

public import proofs.«01_k».proof.Proof.OutProjRun
public import Idealize.ShloMosaic.Lib.Pipeline.ValueKit
public import Idealize.ShloMosaic.Lib.Pipeline.FrameBody
public import Idealize.ShloMosaic.Lib.Pointwise
public import Idealize.ShloMosaic.Lib.WritesUnit
public import Idealize.ShloMosaic.Lib.VecWindow
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.OutProjIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## Every group of columns is coded by the same operations -/

theorem p21 (s : Vec Ideal S96x1 .f32) (v : Vec Ideal S96x1x128 .f32) : k0_pay21 (F := Ideal) s v = k0_pay20 (F := Ideal) s v := rfl
theorem p22 (s : Vec Ideal S96x1 .f32) (v : Vec Ideal S96x1x128 .f32) : k0_pay22 (F := Ideal) s v = k0_pay20 (F := Ideal) s v := rfl
theorem p23 (s : Vec Ideal S96x1 .f32) (v : Vec Ideal S96x1x128 .f32) : k0_pay23 (F := Ideal) s v = k0_pay20 (F := Ideal) s v := rfl
theorem p24 (s : Vec Ideal S96x1 .f32) (v : Vec Ideal S96x1x128 .f32) : k0_pay24 (F := Ideal) s v = k0_pay20 (F := Ideal) s v := rfl
theorem p25 (s : Vec Ideal S96x1 .f32) (v : Vec Ideal S96x1x128 .f32) : k0_pay25 (F := Ideal) s v = k0_pay20 (F := Ideal) s v := rfl
theorem p26 (s : Vec Ideal S96x1 .f32) (v : Vec Ideal S96x1x128 .f32) : k0_pay26 (F := Ideal) s v = k0_pay20 (F := Ideal) s v := rfl
theorem p27 (s : Vec Ideal S96x1 .f32) (v : Vec Ideal S96x1x128 .f32) : k0_pay27 (F := Ideal) s v = k0_pay20 (F := Ideal) s v := rfl
theorem p28 (s : Vec Ideal S96x1 .f32) (v : Vec Ideal S96x1x128 .f32) : k0_pay28 (F := Ideal) s v = k0_pay20 (F := Ideal) s v := rfl
theorem p32 (s : Vec Ideal S96x1 .f32) (v : Vec Ideal S96x1x128 .f32) : k0_pay32 (F := Ideal) s v = k0_pay20 (F := Ideal) s v := rfl
theorem p33 (s : Vec Ideal S96x1 .f32) (v : Vec Ideal S96x1x128 .f32) : k0_pay33 (F := Ideal) s v = k0_pay20 (F := Ideal) s v := rfl
theorem p34 (s : Vec Ideal S96x1 .f32) (v : Vec Ideal S96x1x128 .f32) : k0_pay34 (F := Ideal) s v = k0_pay20 (F := Ideal) s v := rfl
theorem p35 (s : Vec Ideal S96x1 .f32) (v : Vec Ideal S96x1x128 .f32) : k0_pay35 (F := Ideal) s v = k0_pay20 (F := Ideal) s v := rfl
theorem p36 (s : Vec Ideal S96x1 .f32) (v : Vec Ideal S96x1x128 .f32) : k0_pay36 (F := Ideal) s v = k0_pay20 (F := Ideal) s v := rfl
theorem p37 (s : Vec Ideal S96x1 .f32) (v : Vec Ideal S96x1x128 .f32) : k0_pay37 (F := Ideal) s v = k0_pay20 (F := Ideal) s v := rfl
theorem p38 (s : Vec Ideal S96x1 .f32) (v : Vec Ideal S96x1x128 .f32) : k0_pay38 (F := Ideal) s v = k0_pay20 (F := Ideal) s v := rfl
theorem p39 (s : Vec Ideal S96x1 .f32) (v : Vec Ideal S96x1x128 .f32) : k0_pay39 (F := Ideal) s v = k0_pay20 (F := Ideal) s v := rfl
theorem p40 (s : Vec Ideal S96x1 .f32) (v : Vec Ideal S96x1x128 .f32) : k0_pay40 (F := Ideal) s v = k0_pay20 (F := Ideal) s v := rfl
theorem p44 (s : Vec Ideal S96x1 .f32) (v : Vec Ideal S96x1x128 .f32) : k0_pay44 (F := Ideal) s v = k0_pay20 (F := Ideal) s v := rfl
theorem p45 (s : Vec Ideal S96x1 .f32) (v : Vec Ideal S96x1x128 .f32) : k0_pay45 (F := Ideal) s v = k0_pay20 (F := Ideal) s v := rfl
theorem p46 (s : Vec Ideal S96x1 .f32) (v : Vec Ideal S96x1x128 .f32) : k0_pay46 (F := Ideal) s v = k0_pay20 (F := Ideal) s v := rfl
theorem p47 (s : Vec Ideal S96x1 .f32) (v : Vec Ideal S96x1x128 .f32) : k0_pay47 (F := Ideal) s v = k0_pay20 (F := Ideal) s v := rfl
theorem p48 (s : Vec Ideal S96x1 .f32) (v : Vec Ideal S96x1x128 .f32) : k0_pay48 (F := Ideal) s v = k0_pay20 (F := Ideal) s v := rfl
theorem p49 (s : Vec Ideal S96x1 .f32) (v : Vec Ideal S96x1x128 .f32) : k0_pay49 (F := Ideal) s v = k0_pay20 (F := Ideal) s v := rfl
theorem p50 (s : Vec Ideal S96x1 .f32) (v : Vec Ideal S96x1x128 .f32) : k0_pay50 (F := Ideal) s v = k0_pay20 (F := Ideal) s v := rfl
theorem p51 (s : Vec Ideal S96x1 .f32) (v : Vec Ideal S96x1x128 .f32) : k0_pay51 (F := Ideal) s v = k0_pay20 (F := Ideal) s v := rfl
theorem p52 (s : Vec Ideal S96x1 .f32) (v : Vec Ideal S96x1x128 .f32) : k0_pay52 (F := Ideal) s v = k0_pay20 (F := Ideal) s v := rfl
theorem p56 (s : Vec Ideal S96x1 .f32) (v : Vec Ideal S96x1x128 .f32) : k0_pay56 (F := Ideal) s v = k0_pay20 (F := Ideal) s v := rfl
theorem p57 (s : Vec Ideal S96x1 .f32) (v : Vec Ideal S96x1x128 .f32) : k0_pay57 (F := Ideal) s v = k0_pay20 (F := Ideal) s v := rfl
theorem p58 (s : Vec Ideal S96x1 .f32) (v : Vec Ideal S96x1x128 .f32) : k0_pay58 (F := Ideal) s v = k0_pay20 (F := Ideal) s v := rfl
theorem p59 (s : Vec Ideal S96x1 .f32) (v : Vec Ideal S96x1x128 .f32) : k0_pay59 (F := Ideal) s v = k0_pay20 (F := Ideal) s v := rfl
theorem p60 (s : Vec Ideal S96x1 .f32) (v : Vec Ideal S96x1x128 .f32) : k0_pay60 (F := Ideal) s v = k0_pay20 (F := Ideal) s v := rfl
theorem p61 (s : Vec Ideal S96x1 .f32) (v : Vec Ideal S96x1x128 .f32) : k0_pay61 (F := Ideal) s v = k0_pay20 (F := Ideal) s v := rfl
theorem p62 (s : Vec Ideal S96x1 .f32) (v : Vec Ideal S96x1x128 .f32) : k0_pay62 (F := Ideal) s v = k0_pay20 (F := Ideal) s v := rfl
theorem p63 (s : Vec Ideal S96x1 .f32) (v : Vec Ideal S96x1x128 .f32) : k0_pay63 (F := Ideal) s v = k0_pay20 (F := Ideal) s v := rfl
theorem p64 (s : Vec Ideal S96x1 .f32) (v : Vec Ideal S96x1x128 .f32) : k0_pay64 (F := Ideal) s v = k0_pay20 (F := Ideal) s v := rfl
theorem p68 (s : Vec Ideal S96x1 .f32) (v : Vec Ideal S96x1x128 .f32) : k0_pay68 (F := Ideal) s v = k0_pay20 (F := Ideal) s v := rfl
theorem p69 (s : Vec Ideal S96x1 .f32) (v : Vec Ideal S96x1x128 .f32) : k0_pay69 (F := Ideal) s v = k0_pay20 (F := Ideal) s v := rfl
theorem p70 (s : Vec Ideal S96x1 .f32) (v : Vec Ideal S96x1x128 .f32) : k0_pay70 (F := Ideal) s v = k0_pay20 (F := Ideal) s v := rfl
theorem p71 (s : Vec Ideal S96x1 .f32) (v : Vec Ideal S96x1x128 .f32) : k0_pay71 (F := Ideal) s v = k0_pay20 (F := Ideal) s v := rfl
theorem p72 (s : Vec Ideal S96x1 .f32) (v : Vec Ideal S96x1x128 .f32) : k0_pay72 (F := Ideal) s v = k0_pay20 (F := Ideal) s v := rfl
theorem p73 (s : Vec Ideal S96x1 .f32) (v : Vec Ideal S96x1x128 .f32) : k0_pay73 (F := Ideal) s v = k0_pay20 (F := Ideal) s v := rfl
theorem p74 (s : Vec Ideal S96x1 .f32) (v : Vec Ideal S96x1x128 .f32) : k0_pay74 (F := Ideal) s v = k0_pay20 (F := Ideal) s v := rfl
theorem p75 (s : Vec Ideal S96x1 .f32) (v : Vec Ideal S96x1x128 .f32) : k0_pay75 (F := Ideal) s v = k0_pay20 (F := Ideal) s v := rfl
theorem p76 (s : Vec Ideal S96x1 .f32) (v : Vec Ideal S96x1x128 .f32) : k0_pay76 (F := Ideal) s v = k0_pay20 (F := Ideal) s v := rfl
theorem p80 (s : Vec Ideal S96x1 .f32) (v : Vec Ideal S96x1x128 .f32) : k0_pay80 (F := Ideal) s v = k0_pay20 (F := Ideal) s v := rfl
theorem p81 (s : Vec Ideal S96x1 .f32) (v : Vec Ideal S96x1x128 .f32) : k0_pay81 (F := Ideal) s v = k0_pay20 (F := Ideal) s v := rfl
theorem p82 (s : Vec Ideal S96x1 .f32) (v : Vec Ideal S96x1x128 .f32) : k0_pay82 (F := Ideal) s v = k0_pay20 (F := Ideal) s v := rfl
theorem p83 (s : Vec Ideal S96x1 .f32) (v : Vec Ideal S96x1x128 .f32) : k0_pay83 (F := Ideal) s v = k0_pay20 (F := Ideal) s v := rfl
theorem p84 (s : Vec Ideal S96x1 .f32) (v : Vec Ideal S96x1x128 .f32) : k0_pay84 (F := Ideal) s v = k0_pay20 (F := Ideal) s v := rfl

set_option maxHeartbeats 8000000 in
/-- The first point: it stores the codes and scales of the rows and reads them back. -/
theorem kernelRun0_A (c : Dev nD) (i : grid0.Coords) (arg1 : Memref sig .tc .vmem S96x56x128 .f32) (harg1 : arg1.IsWhole) (arg2 : Memref sig .tc .vmem S96x1024 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S1x4096 .f32) (harg5 : arg5.IsWhole) (arg6 : Memref sig .tc .vmem S96x8x128 .f32) (harg6 : arg6.IsWhole) (arg7 : Memref sig .tc .vmem S96x7168 .fp8e4m3) (harg7 : arg7.IsWhole) (arg8 : Memref sig .tc .vmem S96x1 .f32) (harg8 : arg8.IsWhole) (arg9 : Memref sig .tc .vmem S96x4096 .f32) (harg9 : arg9.IsWhole) (arg10 : Memref sig .tc .vmem S96x4096 .fp8e4m3) (harg10 : arg10.IsWhole) (arg11 : Memref sig .tc .vmem S96x1 .f32) (harg11 : arg11.IsWhole) (hc0 : cond0_0 i) (hc1 : ¬cond0_1 i)
    (x0 : Vec Ideal S96x56x128 .f32) (x1 : Vec Ideal S96x1024 .bf16) (x2 : Vec Ideal S7168x1024 .fp8e4m3) (x3 : Vec Ideal S1x1024 .f32) (x4 : Vec Ideal S1x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (grp (k0_pay85 (F := Ideal) (oqc (osc x0) x0) x2 (osc x0) x3)) ∗ owns (c : Thread nD τ) arg7 fullShare (oqc (osc x0) x0) ∗ owns (c : Thread nD τ) arg8 fullShare (osc x0) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_outproj i arg1 harg1 arg2 harg2 arg3 harg3 arg4 harg4 arg5 harg5 arg6 harg6 arg7 harg7 arg8 harg8 arg9 harg9 arg10 harg10 arg11 harg11) K := by
    intro E K
    simp only [cc0_outproj_eq_skeleton]; unfold cc0_outproj_skel
    simp only [k0_part25_eq_skeleton, k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    have h8' : k0_pay16 (F := Ideal) (kernelRun0_A.sl.r_7 c arg1 harg1 x0) (sl x0 51) (sl x0 52) (sl x0 53) (sl x0 54) (sl x0 55) = osc x0 := by
      try delta kernelRun0_A.sl.r_7
      try delta kernelRun0_A.sl.r_6
      try delta kernelRun0_A.sl.r_5
      try delta kernelRun0_A.sl.r_4
      try delta kernelRun0_A.sl.r_3
      try delta kernelRun0_A.sl.r_2
      try delta kernelRun0_A.sl.r_1
      try delta kernelRun0_A.sl.r
      simp only [rdS arg1 harg1 x0, osc]
    have h8 : kernelRun0_A.sl.r_8 c arg1 harg1 x0 = osc x0 := by
      delta kernelRun0_A.sl.r_8
      simp only [rdS arg1 harg1 x0]
      exact h8'
    have e19 : ∀ (a : FVec Ideal S96x128 .f32) (b d e f g v : Vec Ideal S96x1x128 .f32), k0_pay19 (F := Ideal) (k0_pay17 (F := Ideal) a b d e f g v) kernelRun0_A.sl.cst_160 (k0_pay18 (F := Ideal)) = k0_pay20 (F := Ideal) (k0_pay16 (F := Ideal) a b d e f g) v :=
      fun _ _ _ _ _ _ _ => rfl
    have e31 : ∀ (s : Vec Ideal S96x1 .f32) (v : Vec Ideal S96x1x128 .f32), k0_pay31 (F := Ideal) (k0_pay29 (F := Ideal) s v) kernelRun0_A.sl.cst_160 (k0_pay30 (F := Ideal)) = k0_pay20 (F := Ideal) s v := fun _ _ => rfl
    have e43 : ∀ (s : Vec Ideal S96x1 .f32) (v : Vec Ideal S96x1x128 .f32), k0_pay43 (F := Ideal) (k0_pay41 (F := Ideal) s v) kernelRun0_A.sl.cst_160 (k0_pay42 (F := Ideal)) = k0_pay20 (F := Ideal) s v := fun _ _ => rfl
    have e55 : ∀ (s : Vec Ideal S96x1 .f32) (v : Vec Ideal S96x1x128 .f32), k0_pay55 (F := Ideal) (k0_pay53 (F := Ideal) s v) kernelRun0_A.sl.cst_160 (k0_pay54 (F := Ideal)) = k0_pay20 (F := Ideal) s v := fun _ _ => rfl
    have e67 : ∀ (s : Vec Ideal S96x1 .f32) (v : Vec Ideal S96x1x128 .f32), k0_pay67 (F := Ideal) (k0_pay65 (F := Ideal) s v) kernelRun0_A.sl.cst_160 (k0_pay66 (F := Ideal)) = k0_pay20 (F := Ideal) s v := fun _ _ => rfl
    have e79 : ∀ (s : Vec Ideal S96x1 .f32) (v : Vec Ideal S96x1x128 .f32), k0_pay79 (F := Ideal) (k0_pay77 (F := Ideal) s v) kernelRun0_A.sl.cst_160 (k0_pay78 (F := Ideal)) = k0_pay20 (F := Ideal) s v := fun _ _ => rfl
    have hs : ∀ f : arg8.view.ty.Contents (Elt Ideal), View.read (Elt Ideal) arg8.view (arg8.view.writes (Elt Ideal) f (kernelRun0_A.sl.H7_1 c arg1 harg1 x0)) = osc x0 := by
      intro f
      unfold kernelRun0_A.sl.H7_1
      refine (View.read_writes_full (s := S96x1) arg8.view f inb_S96x1_S96x1_0_0 _ []).trans ?_
      simp only [rdS arg1 harg1 x0]
      exact h8'
    have hq : ∀ f : arg7.view.ty.Contents (Elt Ideal), View.read (Elt Ideal) arg7.view (arg7.view.writes (Elt Ideal) f (kernelRun0_A.sl.H6_56 c arg1 harg1 x0)) = oqc (osc x0) x0 := by
      intro f
      unfold kernelRun0_A.sl.H6_56
      try delta kernelRun0_A.sl.r_26
      try delta kernelRun0_A.sl.r_25
      try delta kernelRun0_A.sl.r_24
      try delta kernelRun0_A.sl.r_23
      try delta kernelRun0_A.sl.r_22
      try delta kernelRun0_A.sl.r_21
      try delta kernelRun0_A.sl.r_20
      try delta kernelRun0_A.sl.r_19
      try delta kernelRun0_A.sl.r_18
      try delta kernelRun0_A.sl.r_17
      try delta kernelRun0_A.sl.r_16
      try delta kernelRun0_A.sl.r_15
      try delta kernelRun0_A.sl.r_14
      try delta kernelRun0_A.sl.r_13
      try delta kernelRun0_A.sl.r_12
      try delta kernelRun0_A.sl.r_11
      try delta kernelRun0_A.sl.r_10
      try delta kernelRun0_A.sl.r_9
      simp only [h8, rdS arg1 harg1 x0, e19, e31, e43, e55, e67, e79, h8', p21, p22, p23, p24, p25, p26, p27, p28, p32, p33, p34, p35, p36, p37, p38, p39, p40, p44, p45, p46, p47, p48, p49, p50, p51, p52, p56, p57, p58, p59, p60, p61, p62, p63, p64, p68, p69, p70, p71, p72, p73, p74, p75, p76, p80, p81, p82, p83, p84]
      exact codes_read arg7.view f (osc x0) x0
    have hv3 : kernelRun0_A.sl.v3 c arg1 harg1 arg7 x0 = oqc (osc x0) x0 := by
      delta kernelRun0_A.sl.v3
      exact (View.readAt_full _ _ inb_S96x7168_S96x7168_0_0).trans (hq _)
    have hv7 : kernelRun0_A.sl.v7 c arg1 harg1 arg8 x0 = osc x0 := by
      delta kernelRun0_A.sl.v7
      exact (View.readAt_full _ _ inb_S96x1_S96x1_0_0).trans (hs _)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      delta kernelRun0_A.sl.r_27
      simp only [hv3, hv7, rd arg3 harg3 x2 inb_S7168x1024_S7168x1024_0_0, rd arg4 harg4 x3 inb_S1x1024_S1x1024_0_0]
      exact grp_read arg6.view _ (k0_pay85 (F := Ideal) (oqc (osc x0) x0) x2 (osc x0) x3) _ _ _ _ _ _ _ _ (fun r l => tile_groups _ _ _ _ _ rfl r l)
    isplitl [H6]
    · iexists _; isplitr; swap; · iexact H6
      ipureintro
      exact hq f6
    isplitl [H7]
    · iexists _; isplitr; swap; · iexact H7
      ipureintro
      exact hs f7
    isplitl [H8]
    · iexists _; iexists _; isplitr; swap; · iexact H8
      ipureintro; rfl
    isplitl [H9]
    · iexists _; iexists _; isplitr; swap; · iexact H9
      ipureintro; rfl
    iexists _; iexists _; isplitr; swap; · iexact H10
    ipureintro; rfl

end Cert.OutProjIdeal.Gen.Whole
-- ==== Proof.OutProjMain.lean ====
/- The data of the output projection's proof over the reals: what every claimed buffer holds after each point, the body's
   triple at a generic point, and the run and the frame from it. -/
module

public import proofs.«01_k».proof.Proof.Gen.OutProjIdeal.Frame
public import proofs.«01_k».proof.Proof.Gen.OutProjIdeal.Skeleton
public import proofs.«01_k».proof.Proof.OutProjRunA
public import Idealize.ShloMosaic.Lib.Pipeline.ValueKit
public import Idealize.ShloMosaic.Lib.Pipeline.FrameBody
public import Idealize.ShloMosaic.Lib.Pointwise
public import Idealize.ShloMosaic.Lib.WritesUnit
public import Idealize.ShloMosaic.Lib.VecWindow
public import Idealize.ShloMosaic.Lib.Tactic
public import Idealize.ShloMosaic.Lib.WordCmp
public import Idealize.ShloMosaic.Lib.Claim

@[expose] public section

-- the arrays' long axes are looked at coordinate by coordinate
set_option maxRecDepth 16384

noncomputable section

namespace Cert.OutProjIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the points compute -/

/-- The first point. -/
def t₀ : Fin cfg0.N := ⟨0, by decide⟩

/-- The scales of the rows, which the first point stores. -/
def scs (c : Dev nD) : Vec Ideal S96x1 .f32 := osc (iblk m c 0 t₀)

/-- Their codes. -/
def cds (c : Dev nD) : Vec Ideal S96x7168 .fp8e4m3 := oqc (scs m c) (iblk m c 0 t₀)

/-- Point `t`'s tile of the product. -/
def tile (c : Dev nD) (t : Fin cfg0.N) : Vec Ideal S96x1024 .f32 :=
  k0_pay85 (F := Ideal) (cds m c) (iblk m c 2 t) (scs m c) (iblk m c 3 t)

/-! ## The pipeline's proof data -/

/-- The residual sum and the codes and scales made from it are not claimed and nothing of them is named. -/
def forgets0 : Fin 11 → Bool := fun w => w.val == 8 || w.val == 9 || w.val == 10

/-- The proof data: after the body at point `t` each input's buffer at its block, the product's tile in groups, and the
    codes and scales the first point stored. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => grp (tile m c t)
    | ⟨6, _⟩ => cds m c
    | ⟨7, _⟩ => scs m c
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = grp (tile m c t) := by dsimp only [dats]
theorem after0_6 (c : Dev nD) (t : Fin cfg0.N) : (dats m 0 c).after 6 t = cds m c := by dsimp only [dats]
theorem after0_7 (c : Dev nD) (t : Fin cfg0.N) : (dats m 0 c).after 7 t = scs m c := by dsimp only [dats]

/-- What each input's buffer holds when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The first point writes both buffers; the others touch neither. -/
theorem idle6_first (t : Fin cfg0.N) (h0 : t.val % 4 = 0) : cfg0.idle 6 (cfg0.grid.coords t) = false := by
  show (!(k0_cond1 (grid0.coords t) == 1#1)) = false
  rw [show k0_cond1 (grid0.coords t) = 1#1 from (hcond0_0 t).mpr h0]; rfl
theorem idle7_first (t : Fin cfg0.N) (h0 : t.val % 4 = 0) : cfg0.idle 7 (cfg0.grid.coords t) = false := by
  show (!(k0_cond1 (grid0.coords t) == 1#1)) = false
  rw [show k0_cond1 (grid0.coords t) = 1#1 from (hcond0_0 t).mpr h0]; rfl
theorem idle6_later (t : Fin cfg0.N) (h0 : ¬t.val % 4 = 0) : cfg0.idle 6 (cfg0.grid.coords t) = true := by
  show (!(k0_cond1 (grid0.coords t) == 1#1)) = true
  rw [beq_false_of_ne (fun h => h0 ((hcond0_0 t).mp h))]; rfl
theorem idle7_later (t : Fin cfg0.N) (h0 : ¬t.val % 4 = 0) : cfg0.idle 7 (cfg0.grid.coords t) = true := by
  show (!(k0_cond1 (grid0.coords t) == 1#1)) = true
  rw [beq_false_of_ne (fun h => h0 ((hcond0_0 t).mp h))]; rfl

/-- After the first point the codes are found where it left them. -/
theorem before0_6 (c : Dev nD) (d) : ∀ (n : ℕ) (h : n < cfg0.N), n ≠ 0 → (dats m 0 c).before 6 ⟨n, h⟩ d = cds m c := by
  intro n
  induction n with
  | zero => exact fun h h0 => absurd rfl h0
  | succ n ih =>
    intro h _
    have hN : n + 1 < 4 := lt_of_lt_of_eq h N_0
    rw [(dats m 0 c).before_of_pos 6 ⟨n + 1, h⟩ (Nat.succ_ne_zero n) rfl d]
    have hfl : (cfg0.win 6).flush ⟨n, Nat.lt_of_succ_lt h⟩ = false := by
      rcases hf : (cfg0.win 6).flush ⟨n, Nat.lt_of_succ_lt h⟩
      · rfl
      · exact absurd ((flush0_6 _).mp hf) (by show ¬n % 4 = 3; omega)
    show (if (cfg0.win 6).flush ⟨n, Nat.lt_of_succ_lt h⟩ then d else (dats m 0 c).left 6 ⟨n, Nat.lt_of_succ_lt h⟩ d) = _
    rw [hfl, if_neg Bool.false_ne_true]
    unfold Dat.left
    by_cases hn : n = 0
    · rw [idle6_first _ (by show n % 4 = 0; omega)]
      exact after0_6 m c _
    · rw [idle6_later _ (by show ¬n % 4 = 0; omega)]
      exact ih (Nat.lt_of_succ_lt h) hn

/-- After the first point the scales are found where it left them. -/
theorem before0_7 (c : Dev nD) (d) : ∀ (n : ℕ) (h : n < cfg0.N), n ≠ 0 → (dats m 0 c).before 7 ⟨n, h⟩ d = scs m c := by
  intro n
  induction n with
  | zero => exact fun h h0 => absurd rfl h0
  | succ n ih =>
    intro h _
    have hN : n + 1 < 4 := lt_of_lt_of_eq h N_0
    rw [(dats m 0 c).before_of_pos 7 ⟨n + 1, h⟩ (Nat.succ_ne_zero n) rfl d]
    have hfl : (cfg0.win 7).flush ⟨n, Nat.lt_of_succ_lt h⟩ = false := by
      rcases hf : (cfg0.win 7).flush ⟨n, Nat.lt_of_succ_lt h⟩
      · rfl
      · exact absurd ((flush0_7 _).mp hf) (by show ¬n % 4 = 3; omega)
    show (if (cfg0.win 7).flush ⟨n, Nat.lt_of_succ_lt h⟩ then d else (dats m 0 c).left 7 ⟨n, Nat.lt_of_succ_lt h⟩ d) = _
    rw [hfl, if_neg Bool.false_ne_true]
    unfold Dat.left
    by_cases hn : n = 0
    · rw [idle7_first _ (by show n % 4 = 0; omega)]
      exact after0_7 m c _
    · rw [idle7_later _ (by show ¬n % 4 = 0; omega)]
      exact ih (Nat.lt_of_succ_lt h) hn

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1600000 in
/-- The body at any point: the first stores the codes and scales, the others find them; each stores its tile. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, after0_0, after0_1, after0_2, after0_3, after0_4, after0_5]
  rw [show (dats m 0 c).Φ t.succ = (dats m 0 c).Φ t.castSucc from rfl,
    show (dats m 0 c).owesAt () t.succ = (dats m 0 c).owesAt () t.castSucc from rfl]
  have hN : t.val < 4 := lt_of_lt_of_eq t.isLt (show cfg0.N = 4 from N_0)
  by_cases h0 : t.val % 4 = 0
  · rw [show (dats m 0 c).leavesExact 6 t = owns (c : Thread nD τ) (ms0_6 t) fullShare ((dats m 0 c).after 6 t) from by
      unfold Dat.leavesExact; rw [idle6_first t h0], after0_6]
    rw [show (dats m 0 c).leavesExact 7 t = owns (c : Thread nD τ) (ms0_7 t) fullShare ((dats m 0 c).after 7 t) from by
      unfold Dat.leavesExact; rw [idle7_first t h0], after0_7]
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have et : t = t₀ := Fin.ext (by show t.val = 0; omega)
    have es : osc (iblk m c 0 t) = scs m c := by rw [et]; rfl
    have ec : oqc (scs m c) (iblk m c 0 t) = cds m c := by rw [et]; rfl
    iapply ((kernelRun0_A c (grid0.coords t) _ _ _ _ _ _ _ _ _ _ _ _ _ _ _ _ _ _ _ _ _ _ ((hcond0_0 t).mpr h0) (fun h => by have := (hcond0_1 t).mp h; omega) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    rw [es, ec]
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have h6 : owns (c : Thread nD τ) (ms0_6 t) fullShare (cds m c) ⊢ ((dats m 0 c).leavesExact 6 t : sProp 𝕄) := by
      unfold Dat.leavesExact
      rw [idle6_later t h0]
      rcases (cfg0.win 6).flush t
      · show _ ⊢ iprop(∃ d, owns (c : Thread nD τ) (ms0_6 t) fullShare ((dats m 0 c).before 6 t d))
        iintro H
        iexists (cds m c)
        rw [show (dats m 0 c).before 6 t (cds m c) = cds m c from before0_6 m c _ t.val t.isLt (by omega)]
        iexact H
      · show _ ⊢ owns (c : Thread nD τ) (ms0_6 t) fullShare ((dats m 0 c).after 6 t)
        rw [after0_6]
    have h7 : owns (c : Thread nD τ) (ms0_7 t) fullShare (scs m c) ⊢ ((dats m 0 c).leavesExact 7 t : sProp 𝕄) := by
      unfold Dat.leavesExact
      rw [idle7_later t h0]
      rcases (cfg0.win 7).flush t
      · show _ ⊢ iprop(∃ d, owns (c : Thread nD τ) (ms0_7 t) fullShare ((dats m 0 c).before 7 t d))
        iintro H
        iexists (scs m c)
        rw [show (dats m 0 c).before 7 t (scs m c) = scs m c from before0_7 m c _ t.val t.isLt (by omega)]
        iexact H
      · show _ ⊢ owns (c : Thread nD τ) (ms0_7 t) fullShare ((dats m 0 c).after 7 t)
        rw [after0_7]
    iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    rw [show (dats m 0 c).before 6 t d6 = cds m c from before0_6 m c d6 t.val t.isLt (by omega),
      show (dats m 0 c).before 7 t d7 = scs m c from before0_7 m c d7 t.val t.isLt (by omega)]
    by_cases h1 : t.val % 4 = 3
    · iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (cds m c) (scs m c)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexists _; iexact H8
      isplitl [H9]; · iexists _; iexact H9
      isplitl [H10]; · iexists _; iexact H10
      iintro ⟨H0, H1, H2, H3, H4, H5, H6, H7, H8, H9, H10⟩
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iapply h6; iexact H6
      isplitl [H7]; · iapply h7; iexact H7
      isplitl [H8]; · iexact H8
      isplitl [H9]; · iexact H9
      iexact H10
    · iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (cds m c) (scs m c)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexists _; iexact H8
      isplitl [H9]; · iexists _; iexact H9
      isplitl [H10]; · iexists _; iexact H10
      iintro ⟨H0, H1, H2, H3, H4, H5, H6, H7, H8, H9, H10⟩
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iapply h6; iexact H6
      isplitl [H7]; · iapply h7; iexact H7
      isplitl [H8]; · iexact H8
      isplitl [H9]; · iexact H9
      iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligationLoose (dats m 0 c) (defs₀ (F := Ideal)) Variants.none () Set.univ forgets0 := fun t => by
  rw [bigSep_W0, bigSep_W0, defs₀_row]
  exact triple_restated (sound_body m c t) rfl .rfl fun _ => .rfl

/-! ## The run and the frame -/

-- the launch theorem's implicit arguments are found by unifying its conclusion with this one, which takes unfolding plain
-- definitions in a metavariable's type
set_option backward.isDefEq.respectTransparency.types false in
/-- Every run ends, each array with contents the proof data allow, every other buffer as the region found it, and every
    semaphore counter at zero. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

/-- The frame: the argument arrays end unchanged and every counter is zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main_quiescent m ρ)

end Cert.OutProjIdeal.Gen.Whole

end
-- ==== Proof.OutProjValue.lean ====
/- What the output projection call leaves in its claimed results, as functions of the argument arrays. -/
module

public import proofs.«01_k».proof.Proof.OutProjMain
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.OutProj

/-- A vector as one row. -/
def row {n : ℕ} (v : Vec Ideal ⟨1, ![n]⟩ .f32) : Vec Ideal ⟨2, ![1, n]⟩ .f32 := fun i => v (ix1 (i 1))

/-- The row scales of the concatenated heads. -/
def scales (x : Vec Ideal ⟨3, ![96, 56, 128]⟩ .f32) : Vec Ideal ⟨2, ![96, 1]⟩ .f32 := Cert.OutProjIdeal.Gen.Whole.osc x

/-- The codes of the concatenated heads. -/
def codes (x : Vec Ideal ⟨3, ![96, 56, 128]⟩ .f32) : Vec Ideal ⟨2, ![96, 7168]⟩ .fp8e4m3 :=
  Cert.OutProjIdeal.Gen.Whole.oqc (Cert.OutProjIdeal.Gen.Whole.osc x) x

/-- Element (r, n) of the projection: the product of the codes and the weight, times the row's scale, times the column's. -/
def lin (x : Vec Ideal ⟨3, ![96, 56, 128]⟩ .f32) (w : Vec Ideal ⟨2, ![7168, 4096]⟩ .fp8e4m3) (ws : Vec Ideal ⟨1, ![4096]⟩ .f32)
    (r : Fin 96) (n : Fin 4096) : EReal :=
  ((∑ k : Fin 7168, codes x (ix2 r k) * w (ix2 k n)) * scales x (ix2 r 0)) * ws (ix1 n)

/-- The projection in column groups of 128. -/
def out (x : Vec Ideal ⟨3, ![96, 56, 128]⟩ .f32) (w : Vec Ideal ⟨2, ![7168, 4096]⟩ .fp8e4m3) (ws : Vec Ideal ⟨1, ![4096]⟩ .f32) :
    Vec Ideal ⟨3, ![96, 32, 128]⟩ .f32 :=
  fun i => lin x w ws (i 0) ⟨(i 1).val * 128 + (i 2).val, by
    have h1 : (i 1).val < 32 := (i 1).isLt
    have h2 : (i 2).val < 128 := (i 2).isLt
    omega⟩

namespace K
open Cert.OutProjIdeal Cert.OutProjIdeal.Gen Cert.OutProjIdeal.Gen.Whole

variable (m : (ℓ : Loc nD τ sig) → Buf (Elt Ideal) ℓ) (ρ : Dev nD → PrngReg)

theorem pay85_apply (a : Vec Ideal S96x7168 .fp8e4m3) (w : Vec Ideal S7168x1024 .fp8e4m3) (s : Vec Ideal S96x1 .f32) (ws : Vec Ideal S1x1024 .f32)
    (r : Fin 96) (c : Fin 1024) :
    k0_pay85 (F := Ideal) a w s ws (ix2 r c) = ((∑ k : Fin 7168, a (ix2 r k) * w (ix2 k c)) * s (ix2 r 0)) * ws (ix2 0 c) := by
  pointwise [k0_pay85]

theorem idx : ∀ t : Fin cfg0.N, win0_0.index t = ![0, 0, 0] ∧ win0_2.index t = ![0, t.val]
    ∧ win0_3.index t = ![0, t.val] ∧ win0_5.index t = ![0, t.val, 0] ∧ win0_6.index t = ![0, 0] ∧ win0_7.index t = ![0, 0] :=
  (by decide +kernel : ∀ t : Fin grid0.N, _)

/-- The block of heads is the argument. -/
theorem x_eq (c : Dev nD) (t : Fin cfg0.N) : iblk m c 0 t = (m ((c : Thread nD τ).loc main_arg0)) := by
  funext y
  have e0 := (idx t).1
  have e : ((cfg0.win 0).blk t).view.emb y = y := by
    blk_ext [e0]
  show V m c main_arg0 (((cfg0.win 0).blk t).view.emb y) = _
  rw [e, V_main_arg0]

theorem scs_eq (c : Dev nD) : scs m c = scales (m ((c : Thread nD τ).loc main_arg0)) := congrArg osc (x_eq m c t₀)

theorem cds_eq (c : Dev nD) : cds m c = codes (m ((c : Thread nD τ).loc main_arg0)) := by
  unfold cds codes
  rw [scs_eq, x_eq]
  rfl

/-- The block of weight scales a point sees, read at a column. -/
theorem ws_apply (c : Dev nD) (t : Fin cfg0.N) (j : Fin 1024) (k : Fin 4096) (hk : k.val = t.val * 1024 + j.val) :
    iblk m c 3 t (ix2 0 j) = m ((c : Thread nD τ).loc main_arg3) (ix1 k) := by
  have e3 := (idx t).2.2.1
  have e : ((cfg0.win 3).blk t).view.emb (ix2 0 j) = ix2 0 k := by
    blk_ext [e3]
  show V m c main_v1 (((cfg0.win 3).blk t).view.emb (ix2 0 j)) = _
  rw [e]
  entry_read
  pointwise

/-- The block of the weight a point sees, read at an element. -/
theorem w_apply (c : Dev nD) (t : Fin cfg0.N) (i : Fin 7168) (j : Fin 1024) (k : Fin 4096) (hk : k.val = t.val * 1024 + j.val) :
    iblk m c 2 t (ix2 i j) = m ((c : Thread nD τ).loc main_arg2) (ix2 i k) := by
  have e2 := (idx t).2.1
  have e : ((cfg0.win 2).blk t).view.emb (ix2 i j) = ix2 i k := by
    blk_ext [e2]
  show V m c main_arg2 (((cfg0.win 2).blk t).view.emb (ix2 i j)) = _
  rw [e, V_main_arg2]

/-- A point's tile is its columns of the projection. -/
theorem tile_apply (c : Dev nD) (t : Fin cfg0.N) (r : Fin 96) (j : Fin 1024) (k : Fin 4096) (hk : k.val = t.val * 1024 + j.val) :
    tile m c t (ix2 r j) = lin (m ((c : Thread nD τ).loc main_arg0)) (m ((c : Thread nD τ).loc main_arg2)) (m ((c : Thread nD τ).loc main_arg3)) r k := by
  unfold tile
  rw [pay85_apply, ws_apply m c t j k hk, cds_eq, scs_eq]
  unfold lin
  simp only [w_apply m c t _ j k hk]

theorem final5 (c : Dev nD) : (dats m 0 c).arrAt 5 cfg0.N = out (m ((c : Thread nD τ).loc main_arg0)) (m ((c : Thread nD τ).loc main_arg2)) (m ((c : Thread nD τ).loc main_arg3)) := by
  refine (dats m 0 c).arrAt_eq_of_covers 5 _ (by decide +kernel) fun t hf y => ?_
  show (dats m 0 c).after 5 t y = _
  rw [after0_5]
  have h0 : (y 0).val < 96 := (y 0).isLt
  have h1 : (y 1).val < 8 := (y 1).isLt
  have h2 : (y 2).val < 128 := (y 2).isLt
  have ht : t.val < 4 := Nat.lt_of_lt_of_eq t.isLt N_0
  have e5 := (idx t).2.2.2.1
  have e : ((cfg0.win 5).blk t).view.emb y = ix3 ⟨(y 0).val, by omega⟩ ⟨t.val * 8 + (y 1).val, by omega⟩ ⟨(y 2).val, by omega⟩ := by
    blk_ext [e5]
  rw [e]
  unfold grp out
  exact tile_apply m c t _ _ _ (by show (t.val * 8 + (y 1).val) * 128 + (y 2).val = t.val * 1024 + ((y 1).val * 128 + (y 2).val); omega)

theorem final6 (c : Dev nD) : (dats m 0 c).arrAt 6 cfg0.N = codes (m ((c : Thread nD τ).loc main_arg0)) := by
  refine (dats m 0 c).arrAt_eq_of_covers 6 _ (by decide +kernel) fun t hf y => ?_
  show (dats m 0 c).after 6 t y = _
  rw [after0_6, cds_eq]
  have e6 := (idx t).2.2.2.2.1
  have e : ((cfg0.win 6).blk t).view.emb y = y := by
    blk_ext [e6]
  rw [e]

theorem final7 (c : Dev nD) : (dats m 0 c).arrAt 7 cfg0.N = scales (m ((c : Thread nD τ).loc main_arg0)) := by
  refine (dats m 0 c).arrAt_eq_of_covers 7 _ (by decide +kernel) fun t hf y => ?_
  show (dats m 0 c).after 7 t y = _
  rw [after0_7, scs_eq]
  have e7 := (idx t).2.2.2.2.2
  have e : ((cfg0.win 7).blk t).view.emb y = y := by
    blk_ext [e7]
  rw [e]

/-- The run: the three results are the values above, and the arguments end unchanged. -/
theorem run : θ_run defs (onTc (τ := τ) (main (F := Ideal))) ⟨m, fun _ => 0, ρ⟩ fun r => ∀ c : Dev nD,
      r.2.mem ((c : Thread nD τ).loc main_v3_0) = out (m ((c : Thread nD τ).loc main_arg0)) (m ((c : Thread nD τ).loc main_arg2)) (m ((c : Thread nD τ).loc main_arg3))
      ∧ r.2.mem ((c : Thread nD τ).loc main_v3_1) = codes (m ((c : Thread nD τ).loc main_arg0))
      ∧ r.2.mem ((c : Thread nD τ).loc main_v3_2) = scales (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨
      (((dats m 0 c).toRForget_arrAt_iff (fgt := forgets0) (w := 5) rfl _ _).mp ((h c).1 5)).trans (final5 m c),
      (((dats m 0 c).toRForget_arrAt_iff (fgt := forgets0) (w := 6) rfl _ _).mp ((h c).1 6)).trans (final6 m c),
      (((dats m 0 c).toRForget_arrAt_iff (fgt := forgets0) (w := 7) rfl _ _).mp ((h c).1 7)).trans (final7 m c),
      (((dats m 0 c).toRForget_arrAt_iff (fgt := forgets0) (w := 0) rfl _ _).mp ((h c).1 0)).trans (((dats m 0 c).arrAt_in 0 rfl _).trans ((A_eq m c 0).trans (V_main_arg0 m c))),
      ((h c).2 main_arg1 (Pipeline.mem_restRefs_of main_arg1 (by decide) (by decide))).trans (V_main_arg1 m c),
      (((dats m 0 c).toRForget_arrAt_iff (fgt := forgets0) (w := 2) rfl _ _).mp ((h c).1 2)).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end K

end Cert.Proof.OutProj

end
-- ==== Proof.OutProjMath.lean ====
/- The scales and codes of the output projection against the reference's: a maximum kept group by group and then taken
   over the lanes is the maximum over the whole row. -/
module

public import proofs.«01_k».proof.Proof.OutProjRows
public import proofs.«01_k».proof.Proof.Gen.RefOutProjIdeal.Skeleton
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Proof.OutProj

open Cert.OutProjIdeal Cert.OutProjIdeal.Gen Cert.OutProjIdeal.Gen.Whole

/-- The rows of the heads side by side. -/
def rows (x : Vec Ideal ⟨3, ![96, 56, 128]⟩ .f32) : Vec Ideal ⟨2, ![96, 7168]⟩ .f32 := fun i =>
  x (ix3 (i 0) ⟨(i 1).val / 128, by have h : (i 1).val < 7168 := (i 1).isLt; omega⟩ ⟨(i 1).val % 128, Nat.mod_lt _ (by decide)⟩)

/-- A group's element is the row's. -/
theorem sl_row (x : Vec Ideal S96x56x128 .f32) (r : Fin 96) (k : Fin 7168) (l : Fin 128) (hl : l.val = k.val % 128) :
    sl x (k.val / 128) (ix3 r 0 l) = rows x (ix2 r k) := by
  have hk := k.isLt
  show x _ = x _
  congr 1
  funext a; fin_cases a <;> apply Fin.ext
  · rfl
  · show k.val / 128 % 56 = k.val / 128; omega
  · exact hl

/-! ## The running maximum -/

theorem zero_apply (r : Fin 96) (l : Fin 128) :
    broadcast S96x128 (Scalar.ofBits (F := Ideal) .f32 0x00000000#32) (ix2 r l) = (0 : EReal) := by
  pointwise []

theorem abs_apply (v : Vec Ideal S96x1x128 .f32) (r : Fin 96) (l : Fin 128) :
    absf (F := Ideal) (φ := .f32) (shapeCast S96x128 v shapeCasts_S96x1x128_S96x128) (ix2 r l) = FloatOps.absf (F := Ideal) (φ := .f32) (v (ix3 r 0 l)) := by
  pointwise []

theorem max_apply (p q : FVec Ideal S96x128 .f32) (r : Fin 96) (l : Fin 128) :
    maximumf p q (ix2 r l) = max (p (ix2 r l) : EReal) (q (ix2 r l)) := by
  pointwise []

/-- An absolute value is not negative. -/
theorem abs_nonneg' (a : EReal) : 0 ≤ FloatOps.absf (F := Ideal) (φ := .f32) a := by
  show (0 : EReal) ≤ max a (-a)
  rcases le_total 0 a with h | h
  · exact le_max_of_le_left h
  · exact le_max_of_le_right (EReal.neg_nonneg.mpr h)

theorem pay9_apply (v0 v1 v2 v3 v4 v5 v6 v7 : Vec Ideal S96x1x128 .f32) (r : Fin 96) (l : Fin 128) :
    k0_pay9 (F := Ideal) v0 v1 v2 v3 v4 v5 v6 v7 (ix2 r l) = max (max (max (max (max (max (max (max ((0 : EReal)) (FloatOps.absf (F := Ideal) (φ := .f32) (v0 (ix3 r 0 l)))) (FloatOps.absf (F := Ideal) (φ := .f32) (v1 (ix3 r 0 l)))) (FloatOps.absf (F := Ideal) (φ := .f32) (v2 (ix3 r 0 l)))) (FloatOps.absf (F := Ideal) (φ := .f32) (v3 (ix3 r 0 l)))) (FloatOps.absf (F := Ideal) (φ := .f32) (v4 (ix3 r 0 l)))) (FloatOps.absf (F := Ideal) (φ := .f32) (v5 (ix3 r 0 l)))) (FloatOps.absf (F := Ideal) (φ := .f32) (v6 (ix3 r 0 l)))) (FloatOps.absf (F := Ideal) (φ := .f32) (v7 (ix3 r 0 l))) := by
  unfold k0_pay9
  simp only [max_apply, abs_apply, zero_apply]

theorem pay10_apply (p : FVec Ideal S96x128 .f32) (v0 v1 v2 v3 v4 v5 v6 v7 : Vec Ideal S96x1x128 .f32) (r : Fin 96) (l : Fin 128) :
    k0_pay10 (F := Ideal) p v0 v1 v2 v3 v4 v5 v6 v7 (ix2 r l) = max (max (max (max (max (max (max (max (p (ix2 r l)) (FloatOps.absf (F := Ideal) (φ := .f32) (v0 (ix3 r 0 l)))) (FloatOps.absf (F := Ideal) (φ := .f32) (v1 (ix3 r 0 l)))) (FloatOps.absf (F := Ideal) (φ := .f32) (v2 (ix3 r 0 l)))) (FloatOps.absf (F := Ideal) (φ := .f32) (v3 (ix3 r 0 l)))) (FloatOps.absf (F := Ideal) (φ := .f32) (v4 (ix3 r 0 l)))) (FloatOps.absf (F := Ideal) (φ := .f32) (v5 (ix3 r 0 l)))) (FloatOps.absf (F := Ideal) (φ := .f32) (v6 (ix3 r 0 l)))) (FloatOps.absf (F := Ideal) (φ := .f32) (v7 (ix3 r 0 l))) := by
  unfold k0_pay10
  simp only [max_apply, abs_apply, zero_apply]

theorem pay11_apply (v : Vec Ideal S96x1x128 .f32) (r : Fin 96) (l : Fin 128) : k0_pay11 (F := Ideal) v (ix2 r l) = FloatOps.absf (F := Ideal) (φ := .f32) (v (ix3 r 0 l)) := by
  unfold k0_pay11
  simp only [abs_apply]

theorem pay12_apply (p q : FVec Ideal S96x128 .f32) (v0 v1 v2 v3 v4 v5 v6 v7 : Vec Ideal S96x1x128 .f32) (r : Fin 96) (l : Fin 128) :
    k0_pay12 (F := Ideal) p q v0 v1 v2 v3 v4 v5 v6 v7 (ix2 r l) = max (max (max (max (max (max (max (max (max (p (ix2 r l)) (q (ix2 r l))) (FloatOps.absf (F := Ideal) (φ := .f32) (v0 (ix3 r 0 l)))) (FloatOps.absf (F := Ideal) (φ := .f32) (v1 (ix3 r 0 l)))) (FloatOps.absf (F := Ideal) (φ := .f32) (v2 (ix3 r 0 l)))) (FloatOps.absf (F := Ideal) (φ := .f32) (v3 (ix3 r 0 l)))) (FloatOps.absf (F := Ideal) (φ := .f32) (v4 (ix3 r 0 l)))) (FloatOps.absf (F := Ideal) (φ := .f32) (v5 (ix3 r 0 l)))) (FloatOps.absf (F := Ideal) (φ := .f32) (v6 (ix3 r 0 l)))) (FloatOps.absf (F := Ideal) (φ := .f32) (v7 (ix3 r 0 l))) := by
  unfold k0_pay12
  simp only [max_apply, abs_apply, zero_apply]

theorem pay13_apply (p : FVec Ideal S96x128 .f32) (v0 v1 v2 v3 v4 v5 v6 v7 v8 : Vec Ideal S96x1x128 .f32) (r : Fin 96) (l : Fin 128) :
    k0_pay13 (F := Ideal) p v0 v1 v2 v3 v4 v5 v6 v7 v8 (ix2 r l) = max (max (max (max (max (max (max (max (max (p (ix2 r l)) (FloatOps.absf (F := Ideal) (φ := .f32) (v0 (ix3 r 0 l)))) (FloatOps.absf (F := Ideal) (φ := .f32) (v1 (ix3 r 0 l)))) (FloatOps.absf (F := Ideal) (φ := .f32) (v2 (ix3 r 0 l)))) (FloatOps.absf (F := Ideal) (φ := .f32) (v3 (ix3 r 0 l)))) (FloatOps.absf (F := Ideal) (φ := .f32) (v4 (ix3 r 0 l)))) (FloatOps.absf (F := Ideal) (φ := .f32) (v5 (ix3 r 0 l)))) (FloatOps.absf (F := Ideal) (φ := .f32) (v6 (ix3 r 0 l)))) (FloatOps.absf (F := Ideal) (φ := .f32) (v7 (ix3 r 0 l)))) (FloatOps.absf (F := Ideal) (φ := .f32) (v8 (ix3 r 0 l))) := by
  unfold k0_pay13
  simp only [max_apply, abs_apply, zero_apply]

theorem pay14_apply (p : FVec Ideal S96x128 .f32) (v0 v1 v2 v3 v4 v5 v6 v7 : Vec Ideal S96x1x128 .f32) (r : Fin 96) (l : Fin 128) :
    k0_pay14 (F := Ideal) p v0 v1 v2 v3 v4 v5 v6 v7 (ix2 r l) = max (max (max (max (max (max (max (max (p (ix2 r l)) (FloatOps.absf (F := Ideal) (φ := .f32) (v0 (ix3 r 0 l)))) (FloatOps.absf (F := Ideal) (φ := .f32) (v1 (ix3 r 0 l)))) (FloatOps.absf (F := Ideal) (φ := .f32) (v2 (ix3 r 0 l)))) (FloatOps.absf (F := Ideal) (φ := .f32) (v3 (ix3 r 0 l)))) (FloatOps.absf (F := Ideal) (φ := .f32) (v4 (ix3 r 0 l)))) (FloatOps.absf (F := Ideal) (φ := .f32) (v5 (ix3 r 0 l)))) (FloatOps.absf (F := Ideal) (φ := .f32) (v6 (ix3 r 0 l)))) (FloatOps.absf (F := Ideal) (φ := .f32) (v7 (ix3 r 0 l))) := by
  unfold k0_pay14
  simp only [max_apply, abs_apply, zero_apply]

theorem pay15_apply (p : FVec Ideal S96x128 .f32) (v0 v1 v2 v3 v4 v5 v6 v7 v8 : Vec Ideal S96x1x128 .f32) (r : Fin 96) (l : Fin 128) :
    k0_pay15 (F := Ideal) p v0 v1 v2 v3 v4 v5 v6 v7 v8 (ix2 r l) = max (max (max (max (max (max (max (max (max (p (ix2 r l)) (FloatOps.absf (F := Ideal) (φ := .f32) (v0 (ix3 r 0 l)))) (FloatOps.absf (F := Ideal) (φ := .f32) (v1 (ix3 r 0 l)))) (FloatOps.absf (F := Ideal) (φ := .f32) (v2 (ix3 r 0 l)))) (FloatOps.absf (F := Ideal) (φ := .f32) (v3 (ix3 r 0 l)))) (FloatOps.absf (F := Ideal) (φ := .f32) (v4 (ix3 r 0 l)))) (FloatOps.absf (F := Ideal) (φ := .f32) (v5 (ix3 r 0 l)))) (FloatOps.absf (F := Ideal) (φ := .f32) (v6 (ix3 r 0 l)))) (FloatOps.absf (F := Ideal) (φ := .f32) (v7 (ix3 r 0 l)))) (FloatOps.absf (F := Ideal) (φ := .f32) (v8 (ix3 r 0 l))) := by
  unfold k0_pay15
  simp only [max_apply, abs_apply, zero_apply]

/-- The scale of a row whose greatest magnitude is `a`. -/
def scaleOf (a : EReal) : EReal := if 0 < a then Ideal.div a (Ideal.ofBits FTy.f32 1138753536#32) else 1

theorem pay16_apply (p : FVec Ideal S96x128 .f32) (v0 v1 v2 v3 v4 : Vec Ideal S96x1x128 .f32) (r : Fin 96) :
    k0_pay16 (F := Ideal) p v0 v1 v2 v3 v4 (ix2 r 0) = scaleOf (Finset.fold max (Ideal.ofBits FTy.f32 4286578688#32)
      (fun l : Fin 128 => max (max (max (max (max (p (ix2 r l)) (FloatOps.absf (F := Ideal) (φ := .f32) (v0 (ix3 r 0 l)))) (FloatOps.absf (F := Ideal) (φ := .f32) (v1 (ix3 r 0 l)))) (FloatOps.absf (F := Ideal) (φ := .f32) (v2 (ix3 r 0 l)))) (FloatOps.absf (F := Ideal) (φ := .f32) (v3 (ix3 r 0 l)))) (FloatOps.absf (F := Ideal) (φ := .f32) (v4 (ix3 r 0 l)))) Finset.univ) := by
  unfold scaleOf
  pointwise [k0_pay16]

theorem ref_scale_apply (v : Vec Ideal Cert.RefOutProjIdeal.S96x7168 .f32) (r : Fin 96) :
    Cert.RefOutProjIdeal.Gen.k0_pay2 (F := Ideal) v (ix2 r 0) = scaleOf (Finset.fold max (Ideal.ofBits FTy.f32 4286578688#32)
      (fun k : Fin 7168 => FloatOps.absf (F := Ideal) (φ := .f32) (v (ix2 r k))) Finset.univ) := by
  unfold scaleOf
  pointwise [Cert.RefOutProjIdeal.Gen.k0_pay2, Cert.RefOutProjIdeal.Gen.k0_pay1]

/-- The maximum kept group by group and taken over the lanes is the maximum over the row. -/
theorem fold_eq (x : Vec Ideal S96x56x128 .f32) (b : EReal) (r : Fin 96) :
    Finset.fold max b (fun l : Fin 128 => max (max (max (max (max (max (max (max (max (max (max (max (max (max (max (max (max (max (max (max (max (max (max (max (max (max (max (max (max (max (max (max (max (max (max (max (max (max (max (max (max (max (max (max (max (max (max (max (max (max (max (max (max (max (max (max ((0 : EReal)) (FloatOps.absf (F := Ideal) (φ := .f32) (sl x 0 (ix3 r 0 l)))) (FloatOps.absf (F := Ideal) (φ := .f32) (sl x 1 (ix3 r 0 l)))) (FloatOps.absf (F := Ideal) (φ := .f32) (sl x 2 (ix3 r 0 l)))) (FloatOps.absf (F := Ideal) (φ := .f32) (sl x 3 (ix3 r 0 l)))) (FloatOps.absf (F := Ideal) (φ := .f32) (sl x 4 (ix3 r 0 l)))) (FloatOps.absf (F := Ideal) (φ := .f32) (sl x 5 (ix3 r 0 l)))) (FloatOps.absf (F := Ideal) (φ := .f32) (sl x 6 (ix3 r 0 l)))) (FloatOps.absf (F := Ideal) (φ := .f32) (sl x 7 (ix3 r 0 l)))) (FloatOps.absf (F := Ideal) (φ := .f32) (sl x 8 (ix3 r 0 l)))) (FloatOps.absf (F := Ideal) (φ := .f32) (sl x 9 (ix3 r 0 l)))) (FloatOps.absf (F := Ideal) (φ := .f32) (sl x 10 (ix3 r 0 l)))) (FloatOps.absf (F := Ideal) (φ := .f32) (sl x 11 (ix3 r 0 l)))) (FloatOps.absf (F := Ideal) (φ := .f32) (sl x 12 (ix3 r 0 l)))) (FloatOps.absf (F := Ideal) (φ := .f32) (sl x 13 (ix3 r 0 l)))) (FloatOps.absf (F := Ideal) (φ := .f32) (sl x 14 (ix3 r 0 l)))) (FloatOps.absf (F := Ideal) (φ := .f32) (sl x 15 (ix3 r 0 l)))) (FloatOps.absf (F := Ideal) (φ := .f32) (sl x 16 (ix3 r 0 l)))) (FloatOps.absf (F := Ideal) (φ := .f32) (sl x 17 (ix3 r 0 l)))) (FloatOps.absf (F := Ideal) (φ := .f32) (sl x 18 (ix3 r 0 l)))) (FloatOps.absf (F := Ideal) (φ := .f32) (sl x 19 (ix3 r 0 l)))) (FloatOps.absf (F := Ideal) (φ := .f32) (sl x 20 (ix3 r 0 l)))) (FloatOps.absf (F := Ideal) (φ := .f32) (sl x 21 (ix3 r 0 l)))) (FloatOps.absf (F := Ideal) (φ := .f32) (sl x 22 (ix3 r 0 l)))) (FloatOps.absf (F := Ideal) (φ := .f32) (sl x 23 (ix3 r 0 l)))) (FloatOps.absf (F := Ideal) (φ := .f32) (sl x 24 (ix3 r 0 l)))) (FloatOps.absf (F := Ideal) (φ := .f32) (sl x 25 (ix3 r 0 l)))) (FloatOps.absf (F := Ideal) (φ := .f32) (sl x 26 (ix3 r 0 l)))) (FloatOps.absf (F := Ideal) (φ := .f32) (sl x 27 (ix3 r 0 l)))) (FloatOps.absf (F := Ideal) (φ := .f32) (sl x 28 (ix3 r 0 l)))) (FloatOps.absf (F := Ideal) (φ := .f32) (sl x 29 (ix3 r 0 l)))) (FloatOps.absf (F := Ideal) (φ := .f32) (sl x 30 (ix3 r 0 l)))) (FloatOps.absf (F := Ideal) (φ := .f32) (sl x 31 (ix3 r 0 l)))) (FloatOps.absf (F := Ideal) (φ := .f32) (sl x 32 (ix3 r 0 l)))) (FloatOps.absf (F := Ideal) (φ := .f32) (sl x 33 (ix3 r 0 l)))) (FloatOps.absf (F := Ideal) (φ := .f32) (sl x 34 (ix3 r 0 l)))) (FloatOps.absf (F := Ideal) (φ := .f32) (sl x 35 (ix3 r 0 l)))) (FloatOps.absf (F := Ideal) (φ := .f32) (sl x 36 (ix3 r 0 l)))) (FloatOps.absf (F := Ideal) (φ := .f32) (sl x 37 (ix3 r 0 l)))) (FloatOps.absf (F := Ideal) (φ := .f32) (sl x 38 (ix3 r 0 l)))) (FloatOps.absf (F := Ideal) (φ := .f32) (sl x 39 (ix3 r 0 l)))) (FloatOps.absf (F := Ideal) (φ := .f32) (sl x 40 (ix3 r 0 l)))) (FloatOps.absf (F := Ideal) (φ := .f32) (sl x 41 (ix3 r 0 l)))) (FloatOps.absf (F := Ideal) (φ := .f32) (sl x 42 (ix3 r 0 l)))) (FloatOps.absf (F := Ideal) (φ := .f32) (sl x 43 (ix3 r 0 l)))) (FloatOps.absf (F := Ideal) (φ := .f32) (sl x 44 (ix3 r 0 l)))) (FloatOps.absf (F := Ideal) (φ := .f32) (sl x 45 (ix3 r 0 l)))) (FloatOps.absf (F := Ideal) (φ := .f32) (sl x 46 (ix3 r 0 l)))) (FloatOps.absf (F := Ideal) (φ := .f32) (sl x 47 (ix3 r 0 l)))) (FloatOps.absf (F := Ideal) (φ := .f32) (sl x 48 (ix3 r 0 l)))) (FloatOps.absf (F := Ideal) (φ := .f32) (sl x 49 (ix3 r 0 l)))) (FloatOps.absf (F := Ideal) (φ := .f32) (sl x 50 (ix3 r 0 l)))) (FloatOps.absf (F := Ideal) (φ := .f32) (sl x 51 (ix3 r 0 l)))) (FloatOps.absf (F := Ideal) (φ := .f32) (sl x 52 (ix3 r 0 l)))) (FloatOps.absf (F := Ideal) (φ := .f32) (sl x 53 (ix3 r 0 l)))) (FloatOps.absf (F := Ideal) (φ := .f32) (sl x 54 (ix3 r 0 l)))) (FloatOps.absf (F := Ideal) (φ := .f32) (sl x 55 (ix3 r 0 l)))) Finset.univ
      = Finset.fold max b (fun k : Fin 7168 => FloatOps.absf (F := Ideal) (φ := .f32) (rows x (ix2 r k))) Finset.univ := by
  apply le_antisymm
  · have hR := (Finset.fold_max_le (s := Finset.univ) (b := b) (f := fun k : Fin 7168 => FloatOps.absf (F := Ideal) (φ := .f32) (rows x (ix2 r k))) _).mp le_rfl
    revert hR
    generalize Finset.fold max b (fun k : Fin 7168 => FloatOps.absf (F := Ideal) (φ := .f32) (rows x (ix2 r k))) Finset.univ = R
    intro hR
    have hA : ∀ (j : ℕ) (hj : j < 56) (l : Fin 128), FloatOps.absf (F := Ideal) (φ := .f32) (sl x j (ix3 r 0 l)) ≤ R := fun j hj l => by
      have hl := l.isLt
      have h := hR.2 ⟨128 * j + l.val, by omega⟩ (Finset.mem_univ _)
      have e := sl_row x r ⟨128 * j + l.val, by omega⟩ l (by show l.val = (128 * j + l.val) % 128; omega)
      rw [show (⟨128 * j + l.val, by omega⟩ : Fin 7168).val / 128 = j by show (128 * j + l.val) / 128 = j; omega] at e
      rw [e]; exact h
    refine (Finset.fold_max_le _).mpr ⟨hR.1, fun l _ => ?_⟩
    have hz : (0 : EReal) ≤ R := (abs_nonneg' _).trans (hA 0 (by decide) l)
    exact (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le hz (hA 0 (by decide) l)) (hA 1 (by decide) l)) (hA 2 (by decide) l)) (hA 3 (by decide) l)) (hA 4 (by decide) l)) (hA 5 (by decide) l)) (hA 6 (by decide) l)) (hA 7 (by decide) l)) (hA 8 (by decide) l)) (hA 9 (by decide) l)) (hA 10 (by decide) l)) (hA 11 (by decide) l)) (hA 12 (by decide) l)) (hA 13 (by decide) l)) (hA 14 (by decide) l)) (hA 15 (by decide) l)) (hA 16 (by decide) l)) (hA 17 (by decide) l)) (hA 18 (by decide) l)) (hA 19 (by decide) l)) (hA 20 (by decide) l)) (hA 21 (by decide) l)) (hA 22 (by decide) l)) (hA 23 (by decide) l)) (hA 24 (by decide) l)) (hA 25 (by decide) l)) (hA 26 (by decide) l)) (hA 27 (by decide) l)) (hA 28 (by decide) l)) (hA 29 (by decide) l)) (hA 30 (by decide) l)) (hA 31 (by decide) l)) (hA 32 (by decide) l)) (hA 33 (by decide) l)) (hA 34 (by decide) l)) (hA 35 (by decide) l)) (hA 36 (by decide) l)) (hA 37 (by decide) l)) (hA 38 (by decide) l)) (hA 39 (by decide) l)) (hA 40 (by decide) l)) (hA 41 (by decide) l)) (hA 42 (by decide) l)) (hA 43 (by decide) l)) (hA 44 (by decide) l)) (hA 45 (by decide) l)) (hA 46 (by decide) l)) (hA 47 (by decide) l)) (hA 48 (by decide) l)) (hA 49 (by decide) l)) (hA 50 (by decide) l)) (hA 51 (by decide) l)) (hA 52 (by decide) l)) (hA 53 (by decide) l)) (hA 54 (by decide) l)) (hA 55 (by decide) l))
  · have hK := (Finset.fold_max_le (s := Finset.univ) (b := b) (f := fun l : Fin 128 => max (max (max (max (max (max (max (max (max (max (max (max (max (max (max (max (max (max (max (max (max (max (max (max (max (max (max (max (max (max (max (max (max (max (max (max (max (max (max (max (max (max (max (max (max (max (max (max (max (max (max (max (max (max (max (max ((0 : EReal)) (FloatOps.absf (F := Ideal) (φ := .f32) (sl x 0 (ix3 r 0 l)))) (FloatOps.absf (F := Ideal) (φ := .f32) (sl x 1 (ix3 r 0 l)))) (FloatOps.absf (F := Ideal) (φ := .f32) (sl x 2 (ix3 r 0 l)))) (FloatOps.absf (F := Ideal) (φ := .f32) (sl x 3 (ix3 r 0 l)))) (FloatOps.absf (F := Ideal) (φ := .f32) (sl x 4 (ix3 r 0 l)))) (FloatOps.absf (F := Ideal) (φ := .f32) (sl x 5 (ix3 r 0 l)))) (FloatOps.absf (F := Ideal) (φ := .f32) (sl x 6 (ix3 r 0 l)))) (FloatOps.absf (F := Ideal) (φ := .f32) (sl x 7 (ix3 r 0 l)))) (FloatOps.absf (F := Ideal) (φ := .f32) (sl x 8 (ix3 r 0 l)))) (FloatOps.absf (F := Ideal) (φ := .f32) (sl x 9 (ix3 r 0 l)))) (FloatOps.absf (F := Ideal) (φ := .f32) (sl x 10 (ix3 r 0 l)))) (FloatOps.absf (F := Ideal) (φ := .f32) (sl x 11 (ix3 r 0 l)))) (FloatOps.absf (F := Ideal) (φ := .f32) (sl x 12 (ix3 r 0 l)))) (FloatOps.absf (F := Ideal) (φ := .f32) (sl x 13 (ix3 r 0 l)))) (FloatOps.absf (F := Ideal) (φ := .f32) (sl x 14 (ix3 r 0 l)))) (FloatOps.absf (F := Ideal) (φ := .f32) (sl x 15 (ix3 r 0 l)))) (FloatOps.absf (F := Ideal) (φ := .f32) (sl x 16 (ix3 r 0 l)))) (FloatOps.absf (F := Ideal) (φ := .f32) (sl x 17 (ix3 r 0 l)))) (FloatOps.absf (F := Ideal) (φ := .f32) (sl x 18 (ix3 r 0 l)))) (FloatOps.absf (F := Ideal) (φ := .f32) (sl x 19 (ix3 r 0 l)))) (FloatOps.absf (F := Ideal) (φ := .f32) (sl x 20 (ix3 r 0 l)))) (FloatOps.absf (F := Ideal) (φ := .f32) (sl x 21 (ix3 r 0 l)))) (FloatOps.absf (F := Ideal) (φ := .f32) (sl x 22 (ix3 r 0 l)))) (FloatOps.absf (F := Ideal) (φ := .f32) (sl x 23 (ix3 r 0 l)))) (FloatOps.absf (F := Ideal) (φ := .f32) (sl x 24 (ix3 r 0 l)))) (FloatOps.absf (F := Ideal) (φ := .f32) (sl x 25 (ix3 r 0 l)))) (FloatOps.absf (F := Ideal) (φ := .f32) (sl x 26 (ix3 r 0 l)))) (FloatOps.absf (F := Ideal) (φ := .f32) (sl x 27 (ix3 r 0 l)))) (FloatOps.absf (F := Ideal) (φ := .f32) (sl x 28 (ix3 r 0 l)))) (FloatOps.absf (F := Ideal) (φ := .f32) (sl x 29 (ix3 r 0 l)))) (FloatOps.absf (F := Ideal) (φ := .f32) (sl x 30 (ix3 r 0 l)))) (FloatOps.absf (F := Ideal) (φ := .f32) (sl x 31 (ix3 r 0 l)))) (FloatOps.absf (F := Ideal) (φ := .f32) (sl x 32 (ix3 r 0 l)))) (FloatOps.absf (F := Ideal) (φ := .f32) (sl x 33 (ix3 r 0 l)))) (FloatOps.absf (F := Ideal) (φ := .f32) (sl x 34 (ix3 r 0 l)))) (FloatOps.absf (F := Ideal) (φ := .f32) (sl x 35 (ix3 r 0 l)))) (FloatOps.absf (F := Ideal) (φ := .f32) (sl x 36 (ix3 r 0 l)))) (FloatOps.absf (F := Ideal) (φ := .f32) (sl x 37 (ix3 r 0 l)))) (FloatOps.absf (F := Ideal) (φ := .f32) (sl x 38 (ix3 r 0 l)))) (FloatOps.absf (F := Ideal) (φ := .f32) (sl x 39 (ix3 r 0 l)))) (FloatOps.absf (F := Ideal) (φ := .f32) (sl x 40 (ix3 r 0 l)))) (FloatOps.absf (F := Ideal) (φ := .f32) (sl x 41 (ix3 r 0 l)))) (FloatOps.absf (F := Ideal) (φ := .f32) (sl x 42 (ix3 r 0 l)))) (FloatOps.absf (F := Ideal) (φ := .f32) (sl x 43 (ix3 r 0 l)))) (FloatOps.absf (F := Ideal) (φ := .f32) (sl x 44 (ix3 r 0 l)))) (FloatOps.absf (F := Ideal) (φ := .f32) (sl x 45 (ix3 r 0 l)))) (FloatOps.absf (F := Ideal) (φ := .f32) (sl x 46 (ix3 r 0 l)))) (FloatOps.absf (F := Ideal) (φ := .f32) (sl x 47 (ix3 r 0 l)))) (FloatOps.absf (F := Ideal) (φ := .f32) (sl x 48 (ix3 r 0 l)))) (FloatOps.absf (F := Ideal) (φ := .f32) (sl x 49 (ix3 r 0 l)))) (FloatOps.absf (F := Ideal) (φ := .f32) (sl x 50 (ix3 r 0 l)))) (FloatOps.absf (F := Ideal) (φ := .f32) (sl x 51 (ix3 r 0 l)))) (FloatOps.absf (F := Ideal) (φ := .f32) (sl x 52 (ix3 r 0 l)))) (FloatOps.absf (F := Ideal) (φ := .f32) (sl x 53 (ix3 r 0 l)))) (FloatOps.absf (F := Ideal) (φ := .f32) (sl x 54 (ix3 r 0 l)))) (FloatOps.absf (F := Ideal) (φ := .f32) (sl x 55 (ix3 r 0 l)))) _).mp le_rfl
    revert hK
    generalize Finset.fold max b (fun l : Fin 128 => max (max (max (max (max (max (max (max (max (max (max (max (max (max (max (max (max (max (max (max (max (max (max (max (max (max (max (max (max (max (max (max (max (max (max (max (max (max (max (max (max (max (max (max (max (max (max (max (max (max (max (max (max (max (max (max ((0 : EReal)) (FloatOps.absf (F := Ideal) (φ := .f32) (sl x 0 (ix3 r 0 l)))) (FloatOps.absf (F := Ideal) (φ := .f32) (sl x 1 (ix3 r 0 l)))) (FloatOps.absf (F := Ideal) (φ := .f32) (sl x 2 (ix3 r 0 l)))) (FloatOps.absf (F := Ideal) (φ := .f32) (sl x 3 (ix3 r 0 l)))) (FloatOps.absf (F := Ideal) (φ := .f32) (sl x 4 (ix3 r 0 l)))) (FloatOps.absf (F := Ideal) (φ := .f32) (sl x 5 (ix3 r 0 l)))) (FloatOps.absf (F := Ideal) (φ := .f32) (sl x 6 (ix3 r 0 l)))) (FloatOps.absf (F := Ideal) (φ := .f32) (sl x 7 (ix3 r 0 l)))) (FloatOps.absf (F := Ideal) (φ := .f32) (sl x 8 (ix3 r 0 l)))) (FloatOps.absf (F := Ideal) (φ := .f32) (sl x 9 (ix3 r 0 l)))) (FloatOps.absf (F := Ideal) (φ := .f32) (sl x 10 (ix3 r 0 l)))) (FloatOps.absf (F := Ideal) (φ := .f32) (sl x 11 (ix3 r 0 l)))) (FloatOps.absf (F := Ideal) (φ := .f32) (sl x 12 (ix3 r 0 l)))) (FloatOps.absf (F := Ideal) (φ := .f32) (sl x 13 (ix3 r 0 l)))) (FloatOps.absf (F := Ideal) (φ := .f32) (sl x 14 (ix3 r 0 l)))) (FloatOps.absf (F := Ideal) (φ := .f32) (sl x 15 (ix3 r 0 l)))) (FloatOps.absf (F := Ideal) (φ := .f32) (sl x 16 (ix3 r 0 l)))) (FloatOps.absf (F := Ideal) (φ := .f32) (sl x 17 (ix3 r 0 l)))) (FloatOps.absf (F := Ideal) (φ := .f32) (sl x 18 (ix3 r 0 l)))) (FloatOps.absf (F := Ideal) (φ := .f32) (sl x 19 (ix3 r 0 l)))) (FloatOps.absf (F := Ideal) (φ := .f32) (sl x 20 (ix3 r 0 l)))) (FloatOps.absf (F := Ideal) (φ := .f32) (sl x 21 (ix3 r 0 l)))) (FloatOps.absf (F := Ideal) (φ := .f32) (sl x 22 (ix3 r 0 l)))) (FloatOps.absf (F := Ideal) (φ := .f32) (sl x 23 (ix3 r 0 l)))) (FloatOps.absf (F := Ideal) (φ := .f32) (sl x 24 (ix3 r 0 l)))) (FloatOps.absf (F := Ideal) (φ := .f32) (sl x 25 (ix3 r 0 l)))) (FloatOps.absf (F := Ideal) (φ := .f32) (sl x 26 (ix3 r 0 l)))) (FloatOps.absf (F := Ideal) (φ := .f32) (sl x 27 (ix3 r 0 l)))) (FloatOps.absf (F := Ideal) (φ := .f32) (sl x 28 (ix3 r 0 l)))) (FloatOps.absf (F := Ideal) (φ := .f32) (sl x 29 (ix3 r 0 l)))) (FloatOps.absf (F := Ideal) (φ := .f32) (sl x 30 (ix3 r 0 l)))) (FloatOps.absf (F := Ideal) (φ := .f32) (sl x 31 (ix3 r 0 l)))) (FloatOps.absf (F := Ideal) (φ := .f32) (sl x 32 (ix3 r 0 l)))) (FloatOps.absf (F := Ideal) (φ := .f32) (sl x 33 (ix3 r 0 l)))) (FloatOps.absf (F := Ideal) (φ := .f32) (sl x 34 (ix3 r 0 l)))) (FloatOps.absf (F := Ideal) (φ := .f32) (sl x 35 (ix3 r 0 l)))) (FloatOps.absf (F := Ideal) (φ := .f32) (sl x 36 (ix3 r 0 l)))) (FloatOps.absf (F := Ideal) (φ := .f32) (sl x 37 (ix3 r 0 l)))) (FloatOps.absf (F := Ideal) (φ := .f32) (sl x 38 (ix3 r 0 l)))) (FloatOps.absf (F := Ideal) (φ := .f32) (sl x 39 (ix3 r 0 l)))) (FloatOps.absf (F := Ideal) (φ := .f32) (sl x 40 (ix3 r 0 l)))) (FloatOps.absf (F := Ideal) (φ := .f32) (sl x 41 (ix3 r 0 l)))) (FloatOps.absf (F := Ideal) (φ := .f32) (sl x 42 (ix3 r 0 l)))) (FloatOps.absf (F := Ideal) (φ := .f32) (sl x 43 (ix3 r 0 l)))) (FloatOps.absf (F := Ideal) (φ := .f32) (sl x 44 (ix3 r 0 l)))) (FloatOps.absf (F := Ideal) (φ := .f32) (sl x 45 (ix3 r 0 l)))) (FloatOps.absf (F := Ideal) (φ := .f32) (sl x 46 (ix3 r 0 l)))) (FloatOps.absf (F := Ideal) (φ := .f32) (sl x 47 (ix3 r 0 l)))) (FloatOps.absf (F := Ideal) (φ := .f32) (sl x 48 (ix3 r 0 l)))) (FloatOps.absf (F := Ideal) (φ := .f32) (sl x 49 (ix3 r 0 l)))) (FloatOps.absf (F := Ideal) (φ := .f32) (sl x 50 (ix3 r 0 l)))) (FloatOps.absf (F := Ideal) (φ := .f32) (sl x 51 (ix3 r 0 l)))) (FloatOps.absf (F := Ideal) (φ := .f32) (sl x 52 (ix3 r 0 l)))) (FloatOps.absf (F := Ideal) (φ := .f32) (sl x 53 (ix3 r 0 l)))) (FloatOps.absf (F := Ideal) (φ := .f32) (sl x 54 (ix3 r 0 l)))) (FloatOps.absf (F := Ideal) (φ := .f32) (sl x 55 (ix3 r 0 l)))) Finset.univ = K
    intro hK
    refine (Finset.fold_max_le _).mpr ⟨hK.1, fun k _ => ?_⟩
    have h := hK.2 ⟨k.val % 128, Nat.mod_lt _ (by decide)⟩ (Finset.mem_univ _)
    have hk : k.val / 128 < 56 := by have := k.isLt; omega
    rw [← sl_row x r k ⟨k.val % 128, Nat.mod_lt _ (by decide)⟩ rfl]
    revert hk
    generalize k.val / 128 = j
    intro hj
    simp only [max_le_iff] at h
    obtain ⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨hz, h0⟩, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩, h29⟩, h30⟩, h31⟩, h32⟩, h33⟩, h34⟩, h35⟩, h36⟩, h37⟩, h38⟩, h39⟩, h40⟩, h41⟩, h42⟩, h43⟩, h44⟩, h45⟩, h46⟩, h47⟩, h48⟩, h49⟩, h50⟩, h51⟩, h52⟩, h53⟩, h54⟩, h55⟩ := h
    interval_cases j
    exacts [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55]

/-- A row's scale, from the greatest magnitude of the row. -/
theorem osc_apply (x : Vec Ideal S96x56x128 .f32) (r : Fin 96) : osc x (ix2 r 0) = scaleOf (Finset.fold max (Ideal.ofBits FTy.f32 4286578688#32)
      (fun k : Fin 7168 => FloatOps.absf (F := Ideal) (φ := .f32) (rows x (ix2 r k))) Finset.univ) := by
  unfold osc
  rw [pay16_apply]
  simp only [pay15_apply, pay14_apply, pay13_apply, pay12_apply, pay11_apply, pay10_apply, pay9_apply]
  rw [fold_eq]

/-- The scales are the reference's. -/
theorem scales_eq (x : Vec Ideal S96x56x128 .f32) : Cert.RefOutProjIdeal.Gen.k0_pay2 (F := Ideal) (rows x) = osc x := by
  funext y
  have e : y = ix2 (y 0) 0 := by
    funext a; fin_cases a
    · rfl
    · exact Subsingleton.elim (α := Fin 1) _ _
  rw [e]
  exact (ref_scale_apply (rows x) (y 0)).trans (osc_apply x (y 0)).symm

theorem pay20_apply (s : Vec Ideal S96x1 .f32) (v : Vec Ideal S96x1x128 .f32) (r : Fin 96) (l : Fin 128) :
    k0_pay20 (F := Ideal) s v (ix2 r l)
      = min (Ideal.ofBits FTy.f32 1138753536#32) (max (Ideal.ofBits FTy.f32 3286237184#32) (Ideal.div (v (ix3 r 0 l)) (s (ix2 r 0)))) := by
  pointwise [k0_pay20]

theorem ref_codes_apply (v : Vec Ideal Cert.RefOutProjIdeal.S96x7168 .f32) (r : Fin 96) (k : Fin 7168) :
    Cert.RefOutProjIdeal.Gen.k0_pay3 (F := Ideal) v (ix2 r k)
      = min (Ideal.ofBits FTy.f32 1138753536#32) (max (Ideal.ofBits FTy.f32 3286237184#32)
        (Ideal.div (v (ix2 r k)) (Cert.RefOutProjIdeal.Gen.k0_pay2 (F := Ideal) v (ix2 r 0)))) := by
  unfold Cert.RefOutProjIdeal.Gen.k0_pay3
  generalize Cert.RefOutProjIdeal.Gen.k0_pay2 (F := Ideal) v = s
  pointwise [Cert.RefOutProjIdeal.Gen.k0_pay1]

/-- The codes are the reference's. -/
theorem codes_eq (x : Vec Ideal S96x56x128 .f32) : Cert.RefOutProjIdeal.Gen.k0_pay3 (F := Ideal) (rows x) = oqc (osc x) x := by
  funext y
  have e : y = ix2 (y 0) (y 1) := by funext a; fin_cases a <;> rfl
  rw [e]
  generalize y 0 = r
  generalize y 1 = k
  refine (ref_codes_apply (rows x) r k).trans ?_
  rw [scales_eq]
  refine Eq.trans ?_ (pay20_apply (osc x) (sl x (k.val / 128)) r ⟨k.val % 128, Nat.mod_lt _ (by decide)⟩).symm
  rw [sl_row x r k _ rfl]

end Cert.Proof.OutProj
-- ==== Proof.OutProjRef.lean ====
/- What the reference of the output projection call leaves in its results: the values of the kernel's call. -/
module

public import proofs.«01_k».proof.Proof.OutProjValue
public import proofs.«01_k».proof.Proof.OutProjMath
public import proofs.«01_k».proof.Proof.Gen.RefOutProjIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.OutProj

namespace R
open Cert.RefOutProjIdeal Cert.RefOutProjIdeal.Gen

variable (m : (ℓ : Loc nD τ sig) → Buf (Elt Ideal) ℓ) (ρ : Dev nD → PrngReg)

/-- The one grid point. -/
def t₀ : Fin cfg0.N := ⟨0, by decide⟩

theorem idx : ∀ t : Fin cfg0.N, win0_0.index t = ![0, 0] ∧ win0_1.index t = ![0, 0] ∧ win0_2.index t = ![0, 0]
    ∧ win0_3.index t = ![0, 0, 0] ∧ win0_4.index t = ![0, 0] ∧ win0_5.index t = ![0, 0] :=
  (by decide +kernel : ∀ t : Fin grid0.N, _)

/-- Element (r, g, l) of the reference's product. -/
theorem pay4_apply (x : Vec Ideal S96x7168 .f32) (w : Vec Ideal S7168x4096 .fp8e4m3) (ws : Vec Ideal S1x4096 .f32) (r : Fin 96) (g : Fin 32) (l : Fin 128) :
    k0_pay4 (F := Ideal) x w ws (ix3 r g l) = ((∑ k : Fin 7168, k0_pay3 (F := Ideal) x (ix2 r k) * w (ix2 k ⟨g.val * 128 + l.val, by omega⟩))
      * k0_pay2 (F := Ideal) x (ix2 r 0)) * ws (ix2 0 ⟨g.val * 128 + l.val, by omega⟩) := by
  unfold k0_pay4
  generalize k0_pay3 (F := Ideal) x = a
  generalize k0_pay2 (F := Ideal) x = s
  pointwise []

/-- The input's block is its rows. -/
theorem x_eq (c : Dev nD) (t : Fin cfg0.N) : iblk m c 0 t = rows (m ((c : Thread nD τ).loc main_arg0)) := by
  funext y
  have e0 := (idx t).1
  have e : ((cfg0.win 0).blk t).view.emb y = y := by
    blk_ext [e0]
  show V m c main_v0 (((cfg0.win 0).blk t).view.emb y) = _
  rw [e]
  idx_vars y
  unfold rows
  entry_read
  pointwise

/-- The weight's block is the weight. -/
theorem w_eq (c : Dev nD) (t : Fin cfg0.N) : iblk m c 1 t = (m ((c : Thread nD τ).loc main_arg2)) := by
  funext y
  have e0 := (idx t).2.1
  have e : ((cfg0.win 1).blk t).view.emb y = y := by
    blk_ext [e0]
  show V m c main_arg2 (((cfg0.win 1).blk t).view.emb y) = _
  rw [e, V_main_arg2]

/-- The weight scales' block is the weight scales. -/
theorem ws_eq (c : Dev nD) (t : Fin cfg0.N) : iblk m c 2 t = row (m ((c : Thread nD τ).loc main_arg3)) := by
  funext y
  have e0 := (idx t).2.2.1
  have e : ((cfg0.win 2).blk t).view.emb y = y := by
    blk_ext [e0]
  show V m c main_v1 (((cfg0.win 2).blk t).view.emb y) = _
  rw [e]
  idx_vars y
  unfold row
  entry_read
  pointwise

theorem final3 (c : Dev nD) : (dats (F := Ideal) m 0 c).arrAt 3 cfg0.N = out (m ((c : Thread nD τ).loc main_arg0)) (m ((c : Thread nD τ).loc main_arg2)) (m ((c : Thread nD τ).loc main_arg3)) := by
  refine (dats m 0 c).arrAt_eq_of_after_last 3 t₀ (by decide +kernel) _ fun j => ?_
  blk_simp
  rw [after0_3]
  frame_out
  rw [x_eq, w_eq, ws_eq]
  idx_vars j
  rw [pay4_apply, codes_eq, scales_eq]
  rfl

theorem final4 (c : Dev nD) : (dats (F := Ideal) m 0 c).arrAt 4 cfg0.N = codes (m ((c : Thread nD τ).loc main_arg0)) := by
  refine (dats m 0 c).arrAt_eq_of_after_last 4 t₀ (by decide +kernel) _ fun j => ?_
  blk_simp
  rw [after0_4]
  frame_out
  rw [x_eq, codes_eq]
  rfl

theorem final5 (c : Dev nD) : (dats (F := Ideal) m 0 c).arrAt 5 cfg0.N = scales (m ((c : Thread nD τ).loc main_arg0)) := by
  refine (dats m 0 c).arrAt_eq_of_after_last 5 t₀ (by decide +kernel) _ fun j => ?_
  blk_simp
  rw [after0_5]
  frame_out
  rw [x_eq, scales_eq]
  rfl

/-- The run: the three results are the values above, and the arguments end unchanged. -/
theorem run : θ_run defs (onTc (τ := τ) (main (F := Ideal))) ⟨m, fun _ => 0, ρ⟩ fun r => ∀ c : Dev nD,
      r.2.mem ((c : Thread nD τ).loc main_v2_0) = out (m ((c : Thread nD τ).loc main_arg0)) (m ((c : Thread nD τ).loc main_arg2)) (m ((c : Thread nD τ).loc main_arg3))
      ∧ r.2.mem ((c : Thread nD τ).loc main_v2_1) = codes (m ((c : Thread nD τ).loc main_arg0))
      ∧ r.2.mem ((c : Thread nD τ).loc main_v2_2) = scales (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end R

end Cert.Proof.OutProj

end
-- ==== Proof.OutProjClaim.lean ====
/- The claim of the output projection call: the call and its reference compute the same function. -/
module

public import proofs.«01_k».proof.Defs
public import proofs.«01_k».proof.Proof.OutProjRef

@[expose] public section

noncomputable section

open Idealize.ShloMosaic Idealize.ShloMosaic.TcCoe Idealize.SL.Sem

namespace Cert.Proof.OutProj

/-- From equal arguments, the output projection call and its reference leave equal results. -/
theorem algebraic : Cert.algebraic_OutProjIdeal_RefOutProjIdeal (hOutProjIdeal := Cert.OutProjIdeal.Gen.facts)
    (hRefOutProjIdeal := Cert.RefOutProjIdeal.Gen.facts) := by
  intro m g m' g' _ hargs
  refine ⟨fun c => _, fun c => _, fun c => _, K.run m g, ?_⟩
  refine (θ_run (Cert.RefOutProjIdeal.defs (F := Ideal)) _ _).mono (fun r h c => ?_) (R.run m' g')
  obtain ⟨h0, h1, h2, h3⟩ := h c
  obtain ⟨a0, a1, a2, a3, a4⟩ := hargs c
  refine ⟨h0.trans ?_, h1.trans ?_, h2.trans ?_, h3⟩
  · rw [a0, a2, a3]
  · rw [a0]
  · rw [a0]

end Cert.Proof.OutProj

end
-- ==== Proof.GateUpFrame.lean ====
/- The whole frame certificate of the gate and up call: what the outputs hold is forgotten, only that the
   run ends with the arguments unchanged and all counters at zero is stated. -/
module

public import proofs.«01_k».proof.Proof.Gen.GateUp.Frame
public import proofs.«01_k».proof.Proof.Gen.GateUp.Skeleton
public import Idealize.ShloMosaic.Lib.Pipeline.FrameBody
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.GateUp.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_GateUp`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S96x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S96x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x1024 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S96x12288 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S96x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S96x12288 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1000000 in
/-- The body's triple IN CASE A (`scf.if` 0 not taken: points 0, 1, … 10: 11 of 12): on whole staging memrefs — the inputs' at their contents,
    the FORGOTTEN outputs' (6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S96x4096 .fp8e4m3) (harg1 : arg1.IsWhole) (arg2 : Memref sig .tc .vmem S96x1 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S4096x1024 .fp8e4m3) (harg5 : arg5.IsWhole) (arg6 : Memref sig .tc .vmem S1x1024 .f32) (harg6 : arg6.IsWhole) (arg7 : Memref sig .tc .vmem S96x8x128 .f32) (harg7 : arg7.IsWhole) (arg8 : Memref sig .tc .vmem S96x8x128 .f32) (harg8 : arg8.IsWhole) (arg9 : Memref sig .tc .vmem S96x12288 .fp8e4m3) (harg9 : arg9.IsWhole) (arg10 : Memref sig .tc .vmem S96x1 .f32) (harg10 : arg10.IsWhole) (arg11 : Memref sig .tc .vmem S96x12288 .f32) (harg11 : arg11.IsWhole) (hc0 : ¬cond0_0 i)
    (x0 : Vec F S96x4096 .fp8e4m3) (x1 : Vec F S96x1 .f32) (x2 : Vec F S4096x1024 .fp8e4m3) (x3 : Vec F S1x1024 .f32) (x4 : Vec F S4096x1024 .fp8e4m3) (x5 : Vec F S1x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gateup i arg1 harg1 arg2 harg2 arg3 harg3 arg4 harg4 arg5 harg5 arg6 harg6 arg7 harg7 arg8 harg8 arg9 harg9 arg10 harg10 arg11 harg11) K := by
    intro E K
    simp only [cc0_gateup_eq_skeleton]; unfold cc0_gateup_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS0
    ipureintro; rfl

-- (the run's proof term is large: checking it walks past the default budget)
set_option maxHeartbeats 1000000 in
/-- The body's triple IN CASE B (`scf.if` 0 taken: points 11): on whole staging memrefs — the inputs' at their contents,
    the FORGOTTEN outputs' (6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S96x4096 .fp8e4m3) (harg1 : arg1.IsWhole) (arg2 : Memref sig .tc .vmem S96x1 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S4096x1024 .fp8e4m3) (harg5 : arg5.IsWhole) (arg6 : Memref sig .tc .vmem S1x1024 .f32) (harg6 : arg6.IsWhole) (arg7 : Memref sig .tc .vmem S96x8x128 .f32) (harg7 : arg7.IsWhole) (arg8 : Memref sig .tc .vmem S96x8x128 .f32) (harg8 : arg8.IsWhole) (arg9 : Memref sig .tc .vmem S96x12288 .fp8e4m3) (harg9 : arg9.IsWhole) (arg10 : Memref sig .tc .vmem S96x1 .f32) (harg10 : arg10.IsWhole) (arg11 : Memref sig .tc .vmem S96x12288 .f32) (harg11 : arg11.IsWhole) (hc0 : cond0_0 i)
    (x0 : Vec F S96x4096 .fp8e4m3) (x1 : Vec F S96x1 .f32) (x2 : Vec F S4096x1024 .fp8e4m3) (x3 : Vec F S1x1024 .f32) (x4 : Vec F S4096x1024 .fp8e4m3) (x5 : Vec F S1x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gateup i arg1 harg1 arg2 harg2 arg3 harg3 arg4 harg4 arg5 harg5 arg6 harg6 arg7 harg7 arg8 harg8 arg9 harg9 arg10 harg10 arg11 harg11) K := by
    intro E K
    simp only [cc0_gateup_eq_skeleton]; unfold cc0_gateup_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS0
    ipureintro; rfl

/-! ## The pipeline's proof data -/

/-- The output windows this certificate FORGETS (6, 7, 8, 9): nothing reads what the kernel leaves in them, so nothing
    of it is named (Lib/Pipeline/Dat.lean `Dat.toRForget`). -/
def forgets0 : Fin 10 → Bool := fun w => w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 12 := lt_of_lt_of_eq t.isLt (show cfg0.N = 12 from N_0)
  by_cases h0 : t.val % 12 = 11
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_GateUp`'s statement at any `F` — Proof.lean cites it at `Bits`:
    `theorem Cert.Proof.claim : Cert.Claim := ⟨Cert.GateUp.Gen.facts, fun m ρ _ => Cert.GateUp.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.GateUp.Gen.Whole

end
-- ==== Proof.GateUpRun.lean ====
/- The whole run of the gate and up call over the reals, with the contents of every buffer named: the class of
   results a point stores, and what the scratch carries from point to point. -/
module

public import proofs.«01_k».proof.Proof.Gen.GateUpIdeal.Frame
public import proofs.«01_k».proof.Proof.Gen.GateUpIdeal.Skeleton
public import Idealize.ShloMosaic.Lib.Pipeline.ValueKit
public import Idealize.ShloMosaic.Lib.Pipeline.FrameBody
public import Idealize.ShloMosaic.Lib.Pointwise
public import Idealize.ShloMosaic.Lib.WritesUnit
public import Idealize.ShloMosaic.Lib.VecWindow
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.GateUpIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S96x4096 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S96x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x1024 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x8x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S96x12288 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S96x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S96x12288 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- A 1024 column tile laid out as eight groups of 128 columns. -/
def grp (T : Vec Ideal S96x1024 .f32) : Vec Ideal S96x8x128 .f32 := fun y =>
  T (ix2 (y 0) ⟨(y 1).val * 128 + (y 2).val, by
    have h1 : (y 1).val < 8 := (y 1).isLt
    have h2 : (y 2).val < 128 := (y 2).isLt
    omega⟩)

/-- A buffer with the 1024 columns of point `i` replaced by the tile `T`. -/
def put (i : grid0.Coords) (T : Vec Ideal S96x1024 .f32) (d : Vec Ideal S96x12288 .f32) : Vec Ideal S96x12288 .f32 := fun y =>
  if h : 1024 * (i 0).val ≤ (y 1).val ∧ (y 1).val < 1024 * (i 0).val + 1024 then
    T (ix2 (y 0) ⟨(y 1).val - 1024 * (i 0).val, by omega⟩) else d y

/-- A load of a whole buffer that holds `x` reads `x`. -/
theorem rd {s : Shape} {e : EltTy} (a : Memref sig .tc .vmem s e) (ha : a.IsWhole) (x : Vec Ideal s e) {off : Fin s.rank → ℕ}
    (inb : ∀ k, off k + s.size k ≤ s.size k) :
    View.readAt (Elt Ideal) a.view (Rect.unit off s.size inb).toLoadRect (ha.unread x) = x :=
  (View.readAt_full _ _ inb).trans (ha.read_unread _)

theorem pay3_congr {a a' : Vec Ideal S96x4096 .fp8e4m3} {b b' : Vec Ideal S4096x1024 .fp8e4m3} {c c' : Vec Ideal S96x1 .f32}
    {d d' : Vec Ideal S1x1024 .f32} (ha : a = a') (hb : b = b') (hc : c = c') (hd : d = d') :
    k0_pay3 a b c d = k0_pay3 a' b' c' d' := by rw [ha, hb, hc, hd]

theorem pay4_congr {a a' : Vec Ideal S96x4096 .fp8e4m3} {b b' : Vec Ideal S4096x1024 .fp8e4m3} {c c' : Vec Ideal S96x1 .f32}
    {d d' : Vec Ideal S1x1024 .f32} (ha : a = a') (hb : b = b') (hc : c = c') (hd : d = d') :
    k0_pay4 a b c d = k0_pay4 a' b' c' d' := by rw [ha, hb, hc, hd]

/-- The eight groups of a tile cover the block of groups. -/
theorem cover (p0 p1 p2 p3 p4 p5 p6 p7 : Vec Ideal S96x1x128 .f32) (y : S96x8x128.Idx) :
    ∃ p ∈ ([⟨Rect.unit (s := S96x8x128) ![0, 7, 0] S96x1x128.size inb_S96x8x128_S96x1x128_0_7_0, p7⟩,
      ⟨Rect.unit (s := S96x8x128) ![0, 6, 0] S96x1x128.size inb_S96x8x128_S96x1x128_0_6_0, p6⟩,
      ⟨Rect.unit (s := S96x8x128) ![0, 5, 0] S96x1x128.size inb_S96x8x128_S96x1x128_0_5_0, p5⟩,
      ⟨Rect.unit (s := S96x8x128) ![0, 4, 0] S96x1x128.size inb_S96x8x128_S96x1x128_0_4_0, p4⟩,
      ⟨Rect.unit (s := S96x8x128) ![0, 3, 0] S96x1x128.size inb_S96x8x128_S96x1x128_0_3_0, p3⟩,
      ⟨Rect.unit (s := S96x8x128) ![0, 2, 0] S96x1x128.size inb_S96x8x128_S96x1x128_0_2_0, p2⟩,
      ⟨Rect.unit (s := S96x8x128) ![0, 1, 0] S96x1x128.size inb_S96x8x128_S96x1x128_0_1_0, p1⟩,
      ⟨Rect.unit (s := S96x8x128) ![0, 0, 0] S96x1x128.size inb_S96x8x128_S96x1x128_0_0_0, p0⟩] : List (View.Piece (Elt Ideal) S96x8x128 .f32)), y ∈ p.1.set :=
  View.cover_of_tiled [⟨Rect.unit (s := S96x8x128) ![0, 7, 0] S96x1x128.size inb_S96x8x128_S96x1x128_0_7_0, p7⟩,
      ⟨Rect.unit (s := S96x8x128) ![0, 6, 0] S96x1x128.size inb_S96x8x128_S96x1x128_0_6_0, p6⟩,
      ⟨Rect.unit (s := S96x8x128) ![0, 5, 0] S96x1x128.size inb_S96x8x128_S96x1x128_0_5_0, p5⟩,
      ⟨Rect.unit (s := S96x8x128) ![0, 4, 0] S96x1x128.size inb_S96x8x128_S96x1x128_0_4_0, p4⟩,
      ⟨Rect.unit (s := S96x8x128) ![0, 3, 0] S96x1x128.size inb_S96x8x128_S96x1x128_0_3_0, p3⟩,
      ⟨Rect.unit (s := S96x8x128) ![0, 2, 0] S96x1x128.size inb_S96x8x128_S96x1x128_0_2_0, p2⟩,
      ⟨Rect.unit (s := S96x8x128) ![0, 1, 0] S96x1x128.size inb_S96x8x128_S96x1x128_0_1_0, p1⟩,
      ⟨Rect.unit (s := S96x8x128) ![0, 0, 0] S96x1x128.size inb_S96x8x128_S96x1x128_0_0_0, p0⟩] S96x1x128.size (by rfl) y

/-- Eight stores, one per group, leave the tile they were cut from. -/
theorem grp_read (v : View sig .tc .vmem S96x8x128 .f32) (f : v.ty.Contents (Elt Ideal)) (T : Vec Ideal S96x1024 .f32)
    (p0 p1 p2 p3 p4 p5 p6 p7 : Vec Ideal S96x1x128 .f32)
    (h : ∀ (r : Fin 96) (l : Fin 128), p0 (ix3 r 0 l) = T (ix2 r ⟨0 * 128 + l.val, by omega⟩) ∧ p1 (ix3 r 0 l) = T (ix2 r ⟨1 * 128 + l.val, by omega⟩)
      ∧ p2 (ix3 r 0 l) = T (ix2 r ⟨2 * 128 + l.val, by omega⟩) ∧ p3 (ix3 r 0 l) = T (ix2 r ⟨3 * 128 + l.val, by omega⟩)
      ∧ p4 (ix3 r 0 l) = T (ix2 r ⟨4 * 128 + l.val, by omega⟩) ∧ p5 (ix3 r 0 l) = T (ix2 r ⟨5 * 128 + l.val, by omega⟩)
      ∧ p6 (ix3 r 0 l) = T (ix2 r ⟨6 * 128 + l.val, by omega⟩) ∧ p7 (ix3 r 0 l) = T (ix2 r ⟨7 * 128 + l.val, by omega⟩)) :
    v.read (Elt Ideal) (v.writes (Elt Ideal) f [⟨Rect.unit (s := S96x8x128) ![0, 7, 0] S96x1x128.size inb_S96x8x128_S96x1x128_0_7_0, p7⟩,
      ⟨Rect.unit (s := S96x8x128) ![0, 6, 0] S96x1x128.size inb_S96x8x128_S96x1x128_0_6_0, p6⟩,
      ⟨Rect.unit (s := S96x8x128) ![0, 5, 0] S96x1x128.size inb_S96x8x128_S96x1x128_0_5_0, p5⟩,
      ⟨Rect.unit (s := S96x8x128) ![0, 4, 0] S96x1x128.size inb_S96x8x128_S96x1x128_0_4_0, p4⟩,
      ⟨Rect.unit (s := S96x8x128) ![0, 3, 0] S96x1x128.size inb_S96x8x128_S96x1x128_0_3_0, p3⟩,
      ⟨Rect.unit (s := S96x8x128) ![0, 2, 0] S96x1x128.size inb_S96x8x128_S96x1x128_0_2_0, p2⟩,
      ⟨Rect.unit (s := S96x8x128) ![0, 1, 0] S96x1x128.size inb_S96x8x128_S96x1x128_0_1_0, p1⟩,
      ⟨Rect.unit (s := S96x8x128) ![0, 0, 0] S96x1x128.size inb_S96x8x128_S96x1x128_0_0_0, p0⟩]) = grp T := by
  funext y
  refine View.read_writes_apply_of_pieces _ _ (grp T) _ (fun p hp x => ?_) y (cover p0 p1 p2 p3 p4 p5 p6 p7 y)
  have key : ∀ (q : Vec Ideal S96x1x128 .f32) (o : ℕ) (ho : o < 8) (inb : ∀ a, (![0, o, 0] : Fin 3 → ℕ) a + S96x1x128.size a ≤ S96x8x128.size a)
      (hq : ∀ (r : Fin 96) (l : Fin 128), q (ix3 r 0 l) = T (ix2 r ⟨o * 128 + l.val, by omega⟩)) (x : S96x1x128.Idx),
      q x = grp T ((Rect.unit (s := S96x8x128) ![0, o, 0] S96x1x128.size inb).emb x) := fun q o ho inb hq x => by
    have e : x = ix3 (x 0) 0 (x 2) := by
      funext a; fin_cases a
      · rfl
      · exact Subsingleton.elim (α := Fin 1) _ _
      · rfl
    have h1 : (x 1).val = 0 := by have : (x 1).val < 1 := (x 1).isLt; omega
    refine (congrArg q e).trans ((hq (x 0) (x 2)).trans ?_)
    unfold grp
    congr 1
    funext a; fin_cases a <;> apply Fin.ext
    · show (x 0).val = 0 + 1 * (x 0).val; omega
    · show o * 128 + (x 2).val = (o + 1 * (x 1).val) * 128 + (0 + 1 * (x 2).val); rw [h1]; omega
  simp only [List.mem_cons, List.not_mem_nil, or_false] at hp
  rcases hp with rfl | rfl | rfl | rfl | rfl | rfl | rfl | rfl
  · exact key p7 7 (by omega) inb_S96x8x128_S96x1x128_0_7_0 (fun r l => (h r l).2.2.2.2.2.2.2) x
  · exact key p6 6 (by omega) inb_S96x8x128_S96x1x128_0_6_0 (fun r l => (h r l).2.2.2.2.2.2.1) x
  · exact key p5 5 (by omega) inb_S96x8x128_S96x1x128_0_5_0 (fun r l => (h r l).2.2.2.2.2.1) x
  · exact key p4 4 (by omega) inb_S96x8x128_S96x1x128_0_4_0 (fun r l => (h r l).2.2.2.2.1) x
  · exact key p3 3 (by omega) inb_S96x8x128_S96x1x128_0_3_0 (fun r l => (h r l).2.2.2.1) x
  · exact key p2 2 (by omega) inb_S96x8x128_S96x1x128_0_2_0 (fun r l => (h r l).2.2.1) x
  · exact key p1 1 (by omega) inb_S96x8x128_S96x1x128_0_1_0 (fun r l => (h r l).2.1) x
  · exact key p0 0 (by omega) inb_S96x8x128_S96x1x128_0_0_0 (fun r l => (h r l).1) x

/-- The gate tile, cut in groups. -/
theorem gate_groups (T : Vec Ideal S96x1024 .f32) (a : Vec Ideal S96x4096 .fp8e4m3) (b : Vec Ideal S4096x1024 .fp8e4m3) (c : Vec Ideal S96x1 .f32)
    (d : Vec Ideal S1x1024 .f32) (hT : k0_pay3 a b c d = T) (r : Fin 96) (l : Fin 128) :
    k0_pay5 (F := Ideal) a b c d (ix3 r 0 l) = T (ix2 r ⟨0 * 128 + l.val, by omega⟩) ∧ k0_pay8 (k0_pay7 (F := Ideal) a b c d) (ix3 r 0 l) = T (ix2 r ⟨1 * 128 + l.val, by omega⟩)
      ∧ k0_pay10 (F := Ideal) T (ix3 r 0 l) = T (ix2 r ⟨2 * 128 + l.val, by omega⟩) ∧ k0_pay12 (F := Ideal) T (ix3 r 0 l) = T (ix2 r ⟨3 * 128 + l.val, by omega⟩)
      ∧ k0_pay14 (F := Ideal) T (ix3 r 0 l) = T (ix2 r ⟨4 * 128 + l.val, by omega⟩) ∧ k0_pay17 (k0_pay16 (F := Ideal) T) (ix3 r 0 l) = T (ix2 r ⟨5 * 128 + l.val, by omega⟩)
      ∧ k0_pay19 (F := Ideal) T (ix3 r 0 l) = T (ix2 r ⟨6 * 128 + l.val, by omega⟩) ∧ k0_pay21 (F := Ideal) T (ix3 r 0 l) = T (ix2 r ⟨7 * 128 + l.val, by omega⟩) := by
  unfold k0_pay5 k0_pay7
  rw [hT]
  refine ⟨?_, ?_, ?_, ?_, ?_, ?_, ?_, ?_⟩
  · pointwise []
  · pointwise [k0_pay8]
  · pointwise [k0_pay10]
  · pointwise [k0_pay12]
  · pointwise [k0_pay14]
  · pointwise [k0_pay16, k0_pay17]
  · pointwise [k0_pay19]
  · pointwise [k0_pay21]

/-- The up tile, cut in groups. -/
theorem up_groups (T : Vec Ideal S96x1024 .f32) (a : Vec Ideal S96x4096 .fp8e4m3) (b : Vec Ideal S4096x1024 .fp8e4m3) (c : Vec Ideal S96x1 .f32)
    (d : Vec Ideal S1x1024 .f32) (hT : k0_pay4 a b c d = T) (r : Fin 96) (l : Fin 128) :
    k0_pay6 (F := Ideal) a b c d (ix3 r 0 l) = T (ix2 r ⟨0 * 128 + l.val, by omega⟩) ∧ k0_pay9 (F := Ideal) T (ix3 r 0 l) = T (ix2 r ⟨1 * 128 + l.val, by omega⟩)
      ∧ k0_pay11 (F := Ideal) T (ix3 r 0 l) = T (ix2 r ⟨2 * 128 + l.val, by omega⟩) ∧ k0_pay13 (F := Ideal) T (ix3 r 0 l) = T (ix2 r ⟨3 * 128 + l.val, by omega⟩)
      ∧ k0_pay15 (F := Ideal) T (ix3 r 0 l) = T (ix2 r ⟨4 * 128 + l.val, by omega⟩) ∧ k0_pay18 (F := Ideal) T (ix3 r 0 l) = T (ix2 r ⟨5 * 128 + l.val, by omega⟩)
      ∧ k0_pay20 (F := Ideal) T (ix3 r 0 l) = T (ix2 r ⟨6 * 128 + l.val, by omega⟩) ∧ k0_pay22 (F := Ideal) T (ix3 r 0 l) = T (ix2 r ⟨7 * 128 + l.val, by omega⟩) := by
  unfold k0_pay6
  rw [hT]
  refine ⟨?_, ?_, ?_, ?_, ?_, ?_, ?_, ?_⟩
  · pointwise []
  · pointwise [k0_pay9]
  · pointwise [k0_pay11]
  · pointwise [k0_pay13]
  · pointwise [k0_pay15]
  · pointwise [k0_pay18]
  · pointwise [k0_pay20]
  · pointwise [k0_pay22]

/-- A store of a tile at the columns of point `i` leaves the rest of the buffer. -/
theorem put_read (a : Memref sig .tc .vmem S96x12288 .f32) (ha : a.IsWhole) (i : grid0.Coords) (T : Vec Ideal S96x1024 .f32)
    (d : Vec Ideal S96x12288 .f32) (inb : ∀ k, (k0_off1 i) k + S96x1024.size k ≤ S96x12288.size k) :
    a.view.read (Elt Ideal) (a.view.writes (Elt Ideal) (ha.unread d) [⟨Rect.unit (k0_off1 i) S96x1024.size inb, T⟩]) = put i T d := by
  funext y
  unfold put
  split
  · next h =>
    refine (View.read_writes_cons_unit_of_mem a.view _ inb T [] y (ix2 (y 0) ⟨(y 1).val - 1024 * (i 0).val, by omega⟩) (k0_off1_eq i) fun k => ?_)
    fin_cases k
    · show (y 0).val = 0 + (y 0).val; omega
    · show (y 1).val = 1024 * (i 0).val + ((y 1).val - 1024 * (i 0).val); omega
  · next h =>
    refine (View.read_writes_cons_unit_of_not_mem a.view _ inb T [] y (k0_off1_eq i) 1 ?_).trans (congrFun (ha.read_unread d) y)
    show (y 1).val < 1024 * (i 0).val ∨ 1024 * (i 0).val + 1024 ≤ (y 1).val
    omega

set_option maxHeartbeats 1000000 in
/-- The body at a point before the last: the two tiles it stores, and the hidden layer's columns it puts in the scratch. -/
theorem kernelRun0_A (c : Dev nD) (i : grid0.Coords) (arg1 : Memref sig .tc .vmem S96x4096 .fp8e4m3) (harg1 : arg1.IsWhole) (arg2 : Memref sig .tc .vmem S96x1 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S4096x1024 .fp8e4m3) (harg5 : arg5.IsWhole) (arg6 : Memref sig .tc .vmem S1x1024 .f32) (harg6 : arg6.IsWhole) (arg7 : Memref sig .tc .vmem S96x8x128 .f32) (harg7 : arg7.IsWhole) (arg8 : Memref sig .tc .vmem S96x8x128 .f32) (harg8 : arg8.IsWhole) (arg9 : Memref sig .tc .vmem S96x12288 .fp8e4m3) (harg9 : arg9.IsWhole) (arg10 : Memref sig .tc .vmem S96x1 .f32) (harg10 : arg10.IsWhole) (arg11 : Memref sig .tc .vmem S96x12288 .f32) (harg11 : arg11.IsWhole) (hc0 : ¬cond0_0 i)
    (x0 : Vec Ideal S96x4096 .fp8e4m3) (x1 : Vec Ideal S96x1 .f32) (x2 : Vec Ideal S4096x1024 .fp8e4m3) (x3 : Vec Ideal S1x1024 .f32) (x4 : Vec Ideal S4096x1024 .fp8e4m3) (x5 : Vec Ideal S1x1024 .f32) (d8 : Vec Ideal S96x12288 .fp8e4m3) (d9 : Vec Ideal S96x1 .f32) (ds : Vec Ideal S96x12288 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare (d8) ∗ owns (c : Thread nD τ) arg10 fullShare (d9) ∗ owns (c : Thread nD τ) arg11 fullShare (ds)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (grp (k0_pay3 x0 x2 x1 x3)) ∗ owns (c : Thread nD τ) arg8 fullShare (grp (k0_pay4 x0 x4 x1 x5)) ∗ owns (c : Thread nD τ) arg9 fullShare (d8) ∗ owns (c : Thread nD τ) arg10 fullShare (d9) ∗ owns (c : Thread nD τ) arg11 fullShare (put i (k0_pay23 (k0_pay3 x0 x2 x1 x3) (k0_pay4 x0 x4 x1 x5)) ds)) -∗ K ⟨⟩))
          ⊢ wp frame (wpE (defs₀ (F := Ideal)) Variants.none c none) E (cc0_gateup i arg1 harg1 arg2 harg2 arg3 harg3 arg4 harg4 arg5 harg5 arg6 harg6 arg7 harg7 arg8 harg8 arg9 harg9 arg10 harg10 arg11 harg11) K := by
    intro E K
    simp only [cc0_gateup_eq_skeleton]; unfold cc0_gateup_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    have hg : k0_pay3 (View.readAt (Elt Ideal) arg1.view (Rect.unit ![0, 0] S96x4096.size inb_S96x4096_S96x4096_0_0).toLoadRect (harg1.unread x0))
        (View.readAt (Elt Ideal) arg3.view (Rect.unit ![0, 0] S4096x1024.size inb_S4096x1024_S4096x1024_0_0).toLoadRect (harg3.unread x2))
        (View.readAt (Elt Ideal) arg2.view (Rect.unit ![0, 0] S96x1.size inb_S96x1_S96x1_0_0).toLoadRect (harg2.unread x1))
        (View.readAt (Elt Ideal) arg4.view (Rect.unit ![0, 0] S1x1024.size inb_S1x1024_S1x1024_0_0).toLoadRect (harg4.unread x3)) = k0_pay3 x0 x2 x1 x3 :=
      pay3_congr (rd arg1 harg1 x0 _) (rd arg3 harg3 x2 _) (rd arg2 harg2 x1 _) (rd arg4 harg4 x3 _)
    have hu : k0_pay4 (View.readAt (Elt Ideal) arg1.view (Rect.unit ![0, 0] S96x4096.size inb_S96x4096_S96x4096_0_0).toLoadRect (harg1.unread x0))
        (View.readAt (Elt Ideal) arg5.view (Rect.unit ![0, 0] S4096x1024.size inb_S4096x1024_S4096x1024_0_0).toLoadRect (harg5.unread x4))
        (View.readAt (Elt Ideal) arg2.view (Rect.unit ![0, 0] S96x1.size inb_S96x1_S96x1_0_0).toLoadRect (harg2.unread x1))
        (View.readAt (Elt Ideal) arg6.view (Rect.unit ![0, 0] S1x1024.size inb_S1x1024_S1x1024_0_0).toLoadRect (harg6.unread x5)) = k0_pay4 x0 x4 x1 x5 :=
      pay4_congr (rd arg1 harg1 x0 _) (rd arg5 harg5 x4 _) (rd arg2 harg2 x1 _) (rd arg6 harg6 x5 _)
    isplitl [H6]
    · iexists _; isplitr; swap; · iexact H6
      ipureintro
      exact (grp_read _ _ _ _ _ _ _ _ _ _ _ (gate_groups _ _ _ _ _ rfl)).trans (congrArg grp hg)
    isplitl [H7]
    · iexists _; isplitr; swap; · iexact H7
      ipureintro
      exact (grp_read _ _ _ _ _ _ _ _ _ _ _ (up_groups _ _ _ _ _ rfl)).trans (congrArg grp hu)
    isplitl [H8]
    · iexists _; isplitr; · ipureintro; exact hf8
      iexact H8
    isplitl [H9]
    · iexists _; isplitr; · ipureintro; exact hf9
      iexact H9
    iexists _; isplitr; swap; · iexact HS0
    ipureintro
    exact (put_read arg11 harg11 i _ ds _).trans (congrArg₂ (fun a b => put i (k0_pay23 a b) ds) hg hu)

set_option maxHeartbeats 1000000 in
/-- The body at the last point, which also stores the codes and scales of the whole hidden layer. -/
theorem kernelRun0_B (c : Dev nD) (i : grid0.Coords) (arg1 : Memref sig .tc .vmem S96x4096 .fp8e4m3) (harg1 : arg1.IsWhole) (arg2 : Memref sig .tc .vmem S96x1 .f32) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S4096x1024 .fp8e4m3) (harg5 : arg5.IsWhole) (arg6 : Memref sig .tc .vmem S1x1024 .f32) (harg6 : arg6.IsWhole) (arg7 : Memref sig .tc .vmem S96x8x128 .f32) (harg7 : arg7.IsWhole) (arg8 : Memref sig .tc .vmem S96x8x128 .f32) (harg8 : arg8.IsWhole) (arg9 : Memref sig .tc .vmem S96x12288 .fp8e4m3) (harg9 : arg9.IsWhole) (arg10 : Memref sig .tc .vmem S96x1 .f32) (harg10 : arg10.IsWhole) (arg11 : Memref sig .tc .vmem S96x12288 .f32) (harg11 : arg11.IsWhole) (hc0 : cond0_0 i)
    (x0 : Vec Ideal S96x4096 .fp8e4m3) (x1 : Vec Ideal S96x1 .f32) (x2 : Vec Ideal S4096x1024 .fp8e4m3) (x3 : Vec Ideal S1x1024 .f32) (x4 : Vec Ideal S4096x1024 .fp8e4m3) (x5 : Vec Ideal S1x1024 .f32) (d8 : Vec Ideal S96x12288 .fp8e4m3) (d9 : Vec Ideal S96x1 .f32) (ds : Vec Ideal S96x12288 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare (ds)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (grp (k0_pay3 x0 x2 x1 x3)) ∗ owns (c : Thread nD τ) arg8 fullShare (grp (k0_pay4 x0 x4 x1 x5)) ∗ owns (c : Thread nD τ) arg9 fullShare (k0_pay2 (put i (k0_pay23 (k0_pay3 x0 x2 x1 x3) (k0_pay4 x0 x4 x1 x5)) ds)) ∗ owns (c : Thread nD τ) arg10 fullShare (k0_pay1 (put i (k0_pay23 (k0_pay3 x0 x2 x1 x3) (k0_pay4 x0 x4 x1 x5)) ds)) ∗ owns (c : Thread nD τ) arg11 fullShare (put i (k0_pay23 (k0_pay3 x0 x2 x1 x3) (k0_pay4 x0 x4 x1 x5)) ds)) -∗ K ⟨⟩))
          ⊢ wp frame (wpE (defs₀ (F := Ideal)) Variants.none c none) E (cc0_gateup i arg1 harg1 arg2 harg2 arg3 harg3 arg4 harg4 arg5 harg5 arg6 harg6 arg7 harg7 arg8 harg8 arg9 harg9 arg10 harg10 arg11 harg11) K := by
    intro E K
    simp only [cc0_gateup_eq_skeleton]; unfold cc0_gateup_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8x, %f8, -, H8⟩, ⟨%d9x, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    have hg : k0_pay3 (View.readAt (Elt Ideal) arg1.view (Rect.unit ![0, 0] S96x4096.size inb_S96x4096_S96x4096_0_0).toLoadRect (harg1.unread x0))
        (View.readAt (Elt Ideal) arg3.view (Rect.unit ![0, 0] S4096x1024.size inb_S4096x1024_S4096x1024_0_0).toLoadRect (harg3.unread x2))
        (View.readAt (Elt Ideal) arg2.view (Rect.unit ![0, 0] S96x1.size inb_S96x1_S96x1_0_0).toLoadRect (harg2.unread x1))
        (View.readAt (Elt Ideal) arg4.view (Rect.unit ![0, 0] S1x1024.size inb_S1x1024_S1x1024_0_0).toLoadRect (harg4.unread x3)) = k0_pay3 x0 x2 x1 x3 :=
      pay3_congr (rd arg1 harg1 x0 _) (rd arg3 harg3 x2 _) (rd arg2 harg2 x1 _) (rd arg4 harg4 x3 _)
    have hu : k0_pay4 (View.readAt (Elt Ideal) arg1.view (Rect.unit ![0, 0] S96x4096.size inb_S96x4096_S96x4096_0_0).toLoadRect (harg1.unread x0))
        (View.readAt (Elt Ideal) arg5.view (Rect.unit ![0, 0] S4096x1024.size inb_S4096x1024_S4096x1024_0_0).toLoadRect (harg5.unread x4))
        (View.readAt (Elt Ideal) arg2.view (Rect.unit ![0, 0] S96x1.size inb_S96x1_S96x1_0_0).toLoadRect (harg2.unread x1))
        (View.readAt (Elt Ideal) arg6.view (Rect.unit ![0, 0] S1x1024.size inb_S1x1024_S1x1024_0_0).toLoadRect (harg6.unread x5)) = k0_pay4 x0 x4 x1 x5 :=
      pay4_congr (rd arg1 harg1 x0 _) (rd arg5 harg5 x4 _) (rd arg2 harg2 x1 _) (rd arg6 harg6 x5 _)
    have hs : View.readAt (Elt Ideal) arg11.view (Rect.unit ![0, 0] S96x12288.size inb_S96x12288_S96x12288_0_0).toLoadRect
        (arg11.view.writes (Elt Ideal) (harg11.unread ds) [⟨Rect.unit (k0_off1 i) S96x1024.size (k0_off1_inb i), k0_pay23
          (k0_pay3 (View.readAt (Elt Ideal) arg1.view (Rect.unit ![0, 0] S96x4096.size inb_S96x4096_S96x4096_0_0).toLoadRect (harg1.unread x0))
        (View.readAt (Elt Ideal) arg3.view (Rect.unit ![0, 0] S4096x1024.size inb_S4096x1024_S4096x1024_0_0).toLoadRect (harg3.unread x2))
        (View.readAt (Elt Ideal) arg2.view (Rect.unit ![0, 0] S96x1.size inb_S96x1_S96x1_0_0).toLoadRect (harg2.unread x1))
        (View.readAt (Elt Ideal) arg4.view (Rect.unit ![0, 0] S1x1024.size inb_S1x1024_S1x1024_0_0).toLoadRect (harg4.unread x3)))
        (k0_pay4 (View.readAt (Elt Ideal) arg1.view (Rect.unit ![0, 0] S96x4096.size inb_S96x4096_S96x4096_0_0).toLoadRect (harg1.unread x0))
        (View.readAt (Elt Ideal) arg5.view (Rect.unit ![0, 0] S4096x1024.size inb_S4096x1024_S4096x1024_0_0).toLoadRect (harg5.unread x4))
        (View.readAt (Elt Ideal) arg2.view (Rect.unit ![0, 0] S96x1.size inb_S96x1_S96x1_0_0).toLoadRect (harg2.unread x1))
        (View.readAt (Elt Ideal) arg6.view (Rect.unit ![0, 0] S1x1024.size inb_S1x1024_S1x1024_0_0).toLoadRect (harg6.unread x5)))⟩])
        = put i (k0_pay23 (k0_pay3 x0 x2 x1 x3) (k0_pay4 x0 x4 x1 x5)) ds :=
      (View.readAt_full (s := S96x12288) _ _ inb_S96x12288_S96x12288_0_0).trans
        ((put_read arg11 harg11 i _ ds _).trans (congrArg₂ (fun a b => put i (k0_pay23 a b) ds) hg hu))
    isplitl [H6]
    · iexists _; isplitr; swap; · iexact H6
      ipureintro
      exact (grp_read _ _ _ _ _ _ _ _ _ _ _ (gate_groups _ _ _ _ _ rfl)).trans (congrArg grp hg)
    isplitl [H7]
    · iexists _; isplitr; swap; · iexact H7
      ipureintro
      exact (grp_read _ _ _ _ _ _ _ _ _ _ _ (up_groups _ _ _ _ _ rfl)).trans (congrArg grp hu)
    isplitl [H8]
    · iexists _; isplitr; swap; · iexact H8
      ipureintro
      exact (View.read_writes_full (s := S96x12288) arg9.view _ inb_S96x12288_S96x12288_0_0 _ []).trans (congrArg k0_pay2 hs)
    isplitl [H9]
    · iexists _; isplitr; swap; · iexact H9
      ipureintro
      exact (View.read_writes_full (s := S96x1) arg10.view _ inb_S96x1_S96x1_0_0 _ []).trans (congrArg k0_pay1 hs)
    iexists _; isplitr; swap; · iexact HS0
    ipureintro
    exact (put_read arg11 harg11 i _ ds _).trans (congrArg₂ (fun a b => put i (k0_pay23 a b) ds) hg hu)

end Cert.GateUpIdeal.Gen.Whole

end
-- ==== Proof.GateUpMain.lean ====
/- The run of the gate and up call over the reals: the proof data of its pipeline, and the frame. -/
module

public import proofs.«01_k».proof.Proof.GateUpRun

@[expose] public section

-- membership in a rectangle of production extents (`View.cover_of_tiled`): the elaborator's structural look
-- recurses once per coordinate of the long axes
set_option maxRecDepth 16384

noncomputable section

namespace Cert.GateUpIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## What the points compute -/

/-- Point `t`'s tile of the gate projection. -/
def tileG (c : Dev nD) (t : Fin cfg0.N) : Vec Ideal S96x1024 .f32 :=
  k0_pay3 (F := Ideal) (iblk m c 0 t) (iblk m c 2 t) (iblk m c 1 t) (iblk m c 3 t)

/-- Point `t`'s tile of the up projection. -/
def tileU (c : Dev nD) (t : Fin cfg0.N) : Vec Ideal S96x1024 .f32 :=
  k0_pay4 (F := Ideal) (iblk m c 0 t) (iblk m c 4 t) (iblk m c 1 t) (iblk m c 5 t)

/-- The hidden layer, its 12288 columns the twelve points' tiles side by side. -/
def hidAll (c : Dev nD) : Vec Ideal S96x12288 .f32 := fun y =>
  k0_pay23 (F := Ideal) (tileG m c ⟨(y 1).val / 1024, by have h : (y 1).val < 12288 := (y 1).isLt; show _ < 12; omega⟩)
    (tileU m c ⟨(y 1).val / 1024, by have h : (y 1).val < 12288 := (y 1).isLt; show _ < 12; omega⟩)
    (ix2 (y 0) ⟨(y 1).val % 1024, Nat.mod_lt _ (by decide)⟩)

/-- The scratch before point `n`: its first `n` tiles are the hidden layer's. -/
def filled (c : Dev nD) (n : ℕ) (d : Vec Ideal S96x12288 .f32) : Prop := ∀ y : S96x12288.Idx, (y 1).val < 1024 * n → d y = hidAll m c y

theorem coord0 (t : Fin cfg0.N) : (grid0.coords t 0).val = t.val := by
  have ht : t.val < 12 := Nat.lt_of_lt_of_eq t.isLt N_0
  have e0 : (grid0.coords t 0).val = t.val / 1 % 12 := Pipeline.Grid.coords_val t 0 (by decide) rfl
  omega

/-- A point's store fills one more tile. -/
theorem filled_put (c : Dev nD) (t : Fin cfg0.N) (d : Vec Ideal S96x12288 .f32) (h : filled m c t.val d) :
    filled m c (t.val + 1) (put (grid0.coords t) (k0_pay23 (F := Ideal) (tileG m c t) (tileU m c t)) d) := by
  intro y hy
  unfold put
  split
  · next hc =>
    rw [coord0] at hc
    have e : (⟨(y 1).val / 1024, by have h : (y 1).val < 12288 := (y 1).isLt; show _ < 12; omega⟩ : Fin cfg0.N) = t :=
      Fin.ext (by show (y 1).val / 1024 = t.val; omega)
    unfold hidAll
    rw [e]
    congr 2
    refine Fin.ext (?_ : (y 1).val - 1024 * (grid0.coords t 0).val = (y 1).val % 1024)
    rw [coord0]
    exact (by show (y 1).val - 1024 * t.val = (y 1).val % 1024; omega)
  · next hc =>
    rw [coord0] at hc
    exact h y (by omega)

/-- Filled to the last tile, the scratch is the hidden layer. -/
theorem filled_all (c : Dev nD) (d : Vec Ideal S96x12288 .f32) (h : filled m c 12 d) : d = hidAll m c :=
  funext fun y => h y (by have h : (y 1).val < 12288 := (y 1).isLt; omega)

/-! ## The pipeline's proof data -/

/-- The invariant before point `n`: the scratch filled to there, and the generator register. -/
def Phi (c : Dev nD) (n : ℕ) : sProp 𝕄 :=
  iprop((∃ d, ⌜filled m c n d⌝ ∗ owns (c : Thread nD τ) scM0_0 fullShare d) ∗ (∃ r, prngReg c r))

/-- The proof data: after the body at point `t` each input's buffer at its block, the tiles of the two projections in
    groups, and the hidden layer's codes and scales (which the last point stores). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => grp (tileG m c t)
    | ⟨7, _⟩ => grp (tileU m c t)
    | ⟨8, _⟩ => k0_pay2 (F := Ideal) (hidAll m c)
    | ⟨9, _⟩ => k0_pay1 (F := Ideal) (hidAll m c)
  Φ t := Phi m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = grp (tileG m c t) := by dsimp only [dats]
theorem after0_7 (c : Dev nD) (t : Fin cfg0.N) : (dats m 0 c).after 7 t = grp (tileU m c t) := by dsimp only [dats]
theorem after0_8 (c : Dev nD) (t : Fin cfg0.N) : (dats m 0 c).after 8 t = k0_pay2 (F := Ideal) (hidAll m c) := by dsimp only [dats]
theorem after0_9 (c : Dev nD) (t : Fin cfg0.N) : (dats m 0 c).after 9 t = k0_pay1 (F := Ideal) (hidAll m c) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The body at any point: the last point stores the codes and scales of the filled scratch, the others leave those
    buffers as they found them. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  have hN : t.val < 12 := lt_of_lt_of_eq t.isLt (show cfg0.N = 12 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [show cfg0.idle 6 (cfg0.grid.coords t) = false from rfl], after0_6]
  rw [show (dats m 0 c).leavesExact 7 t = owns (c : Thread nD τ) (ms0_7 t) fullShare ((dats m 0 c).after 7 t) from by
    unfold Dat.leavesExact; rw [show cfg0.idle 7 (cfg0.grid.coords t) = false from rfl], after0_7]
  by_cases h0 : t.val % 12 = 11
  · rw [show (dats m 0 c).leavesExact 8 t = owns (c : Thread nD τ) (ms0_8 t) fullShare ((dats m 0 c).after 8 t) from by
      unfold Dat.leavesExact; rw [show cfg0.idle 8 (cfg0.grid.coords t) = false from by
        show (!(k0_cond1 (grid0.coords t) == 1#1)) = false
        rw [show k0_cond1 (grid0.coords t) = 1#1 from (hcond0_0 t).mpr h0]; rfl], after0_8]
    rw [show (dats m 0 c).leavesExact 9 t = owns (c : Thread nD τ) (ms0_9 t) fullShare ((dats m 0 c).after 9 t) from by
      unfold Dat.leavesExact; rw [show cfg0.idle 9 (cfg0.grid.coords t) = false from by
        show (!(k0_cond1 (grid0.coords t) == 1#1)) = false
        rw [show k0_cond1 (grid0.coords t) = 1#1 from (hcond0_0 t).mpr h0]; rfl], after0_9]
    iintro ⟨⟨⟨%ds, %hds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hlast : put (grid0.coords t) (k0_pay23 (F := Ideal) (tileG m c t) (tileU m c t)) ds = hidAll m c :=
      filled_all m c _ (by have h := filled_put m c t ds hds; rwa [show t.val + 1 = 12 by omega] at h)
    iapply ((kernelRun0_B c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (k0_pay2 (F := Ideal) (hidAll m c)) (k0_pay1 (F := Ideal) (hidAll m c)) ds) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg]
    · isplitl [HS0]
      · iexists _; isplitr; swap; · iexact HS0
        ipureintro; exact filled_put m c t ds hds
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · rw [show k0_pay2 (F := Ideal) (hidAll m c) = k0_pay2 (put (grid0.coords t) (k0_pay23 (F := Ideal) (tileG m c t) (tileU m c t)) ds) from by rw [hlast]]
      iexact H8
    rw [show k0_pay1 (F := Ideal) (hidAll m c) = k0_pay1 (put (grid0.coords t) (k0_pay23 (F := Ideal) (tileG m c t) (tileU m c t)) ds) from by rw [hlast]]
    iexact H9
  · rw [show (dats m 0 c).leavesExact 8 t = iprop(∃ d, owns (c : Thread nD τ) (ms0_8 t) fullShare ((dats m 0 c).before 8 t d)) from by
      unfold Dat.leavesExact
      rw [show cfg0.idle 8 (cfg0.grid.coords t) = true from by
        show (!(k0_cond1 (grid0.coords t) == 1#1)) = true
        rw [beq_false_of_ne (fun h => h0 ((hcond0_0 t).mp h))]; rfl,
        show (cfg0.win 8).flush t = false from by
          rcases hf : (cfg0.win 8).flush t
          · rfl
          · exact absurd ((flush0_8 t).mp hf) h0]]
    rw [show (dats m 0 c).leavesExact 9 t = iprop(∃ d, owns (c : Thread nD τ) (ms0_9 t) fullShare ((dats m 0 c).before 9 t d)) from by
      unfold Dat.leavesExact
      rw [show cfg0.idle 9 (cfg0.grid.coords t) = true from by
        show (!(k0_cond1 (grid0.coords t) == 1#1)) = true
        rw [beq_false_of_ne (fun h => h0 ((hcond0_0 t).mp h))]; rfl,
        show (cfg0.win 9).flush t = false from by
          rcases hf : (cfg0.win 9).flush t
          · rfl
          · exact absurd ((flush0_9 t).mp hf) h0]]
    iintro ⟨⟨⟨%ds, %hds, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) ((dats m 0 c).before 8 t d8) ((dats m 0 c).before 9 t d9) ds) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HS0]; · iexact HS0
    iintro ⟨H0, H1, H2, H3, H4, H5, H6, H7, H8, H9, HS0⟩
    isplitl [HS0 Hg]
    · isplitl [HS0]
      · iexists _; isplitr; swap; · iexact HS0
        ipureintro; exact filled_put m c t ds hds
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

/-- Before the first point the scratch may hold anything, -/
theorem hin (c : Dev nD) : (Pipeline.ΦA spec0 c : sProp 𝕄) ⊢ (dats m 0 c).Φ 0 := by
  rw [show (dats m 0 c).Φ 0 = Phi m c 0 from rfl, PhiA0_eq]
  unfold Phi
  iintro ⟨⟨%d, HS⟩, Hg⟩
  isplitl [HS]
  · iexists _; isplitr; swap; · iexact HS
    ipureintro; exact fun y hy => absurd hy (by omega)
  iexact Hg

/-- and after the last what it holds is let go. -/
theorem hout (c : Dev nD) : (dats m 0 c).Φ (Fin.last cfg0.N) ⊢ (Pipeline.ΦA spec0 c : sProp 𝕄) := by
  rw [show (dats m 0 c).Φ (Fin.last cfg0.N) = Phi m c cfg0.N from rfl, PhiA0_eq]
  unfold Phi
  iintro ⟨⟨%d, -, HS⟩, Hg⟩
  isplitl [HS]
  · iexists _; iexact HS
  iexact Hg

-- the launch theorem's implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with each array at what the library computes from the proof data, every other buffer as the region
    found it. -/
theorem run_main : θ_run defs (onTc (τ := τ) (main (F := Ideal))) (s₀ m ρ) (Pipeline.FramePost cfgs (dats m) 0 (V m)) :=
  (θ_run defs _ _).mono (fun _ h => h.1) (run_main_quiescent m ρ)

/-- The frame: the argument arrays end unchanged and every counter is zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.GateUpIdeal.Gen.Whole

end
-- ==== Proof.GateUpValue.lean ====
/- What the gate and up call leaves in its results, as functions of the argument arrays. -/
module

public import proofs.«01_k».proof.Proof.GateUpMain
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.GateUp

/-- Element (r, c) of a projection: the product of the codes and the weight, times the row's scale, times the column's. -/
def lin (a : Vec Ideal ⟨2, ![96, 4096]⟩ .fp8e4m3) (s : Vec Ideal ⟨2, ![96, 1]⟩ .f32) (w : Vec Ideal ⟨2, ![4096, 12288]⟩ .fp8e4m3)
    (ws : Vec Ideal ⟨1, ![12288]⟩ .f32) (r : Fin 96) (c : Fin 12288) : EReal :=
  ((∑ k : Fin 4096, a (ix2 r k) * w (ix2 k c)) * s (ix2 r 0)) * ws (ix1 c)

/-- A projection in column groups of 128. -/
def outLin (a : Vec Ideal ⟨2, ![96, 4096]⟩ .fp8e4m3) (s : Vec Ideal ⟨2, ![96, 1]⟩ .f32) (w : Vec Ideal ⟨2, ![4096, 12288]⟩ .fp8e4m3)
    (ws : Vec Ideal ⟨1, ![12288]⟩ .f32) : Vec Ideal ⟨3, ![96, 96, 128]⟩ .f32 :=
  fun i => lin a s w ws (i 0) ⟨(i 1).val * 128 + (i 2).val, by have := (i 1).isLt; have := (i 2).isLt; simp at *; omega⟩

/-- The hidden layer: the gate times its logistic function, times the up projection. -/
def hid (a : Vec Ideal ⟨2, ![96, 4096]⟩ .fp8e4m3) (s : Vec Ideal ⟨2, ![96, 1]⟩ .f32) (wg : Vec Ideal ⟨2, ![4096, 12288]⟩ .fp8e4m3)
    (gs : Vec Ideal ⟨1, ![12288]⟩ .f32) (wu : Vec Ideal ⟨2, ![4096, 12288]⟩ .fp8e4m3)
    (us : Vec Ideal ⟨1, ![12288]⟩ .f32) : Vec Ideal ⟨2, ![96, 12288]⟩ .f32 :=
  fun i => (lin a s wg gs (i 0) (i 1) * Ideal.logistic (lin a s wg gs (i 0) (i 1))) * lin a s wu us (i 0) (i 1)

/-- The row scales of a matrix: a row's largest magnitude over 448, or 1 for a row of zeros. -/
def scales (h : Vec Ideal ⟨2, ![96, 12288]⟩ .f32) : Vec Ideal ⟨2, ![96, 1]⟩ .f32 := Cert.GateUpIdeal.Gen.k0_pay1 (F := Ideal) h

/-- The codes of a matrix: each element over its row's scale, clipped to ±448. -/
def codes (h : Vec Ideal ⟨2, ![96, 12288]⟩ .f32) : Vec Ideal ⟨2, ![96, 12288]⟩ .fp8e4m3 := Cert.GateUpIdeal.Gen.k0_pay2 (F := Ideal) h

namespace K
open Cert.GateUpIdeal Cert.GateUpIdeal.Gen Cert.GateUpIdeal.Gen.Whole

variable (m : (ℓ : Loc nD τ sig) → Buf (Elt Ideal) ℓ) (ρ : Dev nD → PrngReg)

theorem pay3_apply (a : Vec Ideal S96x4096 .fp8e4m3) (w : Vec Ideal S4096x1024 .fp8e4m3) (s : Vec Ideal S96x1 .f32) (ws : Vec Ideal S1x1024 .f32)
    (r : Fin 96) (c : Fin 1024) :
    k0_pay3 (F := Ideal) a w s ws (ix2 r c) = ((∑ k : Fin 4096, a (ix2 r k) * w (ix2 k c)) * s (ix2 r 0)) * ws (ix2 0 c) := by
  pointwise [k0_pay3]

theorem pay4_apply (a : Vec Ideal S96x4096 .fp8e4m3) (w : Vec Ideal S4096x1024 .fp8e4m3) (s : Vec Ideal S96x1 .f32) (ws : Vec Ideal S1x1024 .f32)
    (r : Fin 96) (c : Fin 1024) :
    k0_pay4 (F := Ideal) a w s ws (ix2 r c) = ((∑ k : Fin 4096, a (ix2 r k) * w (ix2 k c)) * s (ix2 r 0)) * ws (ix2 0 c) := by
  pointwise [k0_pay4]

theorem pay23_apply (g u : Vec Ideal S96x1024 .f32) (r : Fin 96) (c : Fin 1024) :
    k0_pay23 (F := Ideal) g u (ix2 r c) = (g (ix2 r c) * Ideal.logistic (g (ix2 r c))) * u (ix2 r c) := by
  pointwise [k0_pay23]

theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val] ∧ win0_6.index t = ![0, t.val, 0]
    ∧ win0_7.index t = ![0, t.val, 0] ∧ win0_8.index t = ![0, 0] ∧ win0_9.index t = ![0, 0] :=
  (by decide +kernel : ∀ t : Fin grid0.N, _)

/-- The block of gate scales a point sees, read at a column. -/
theorem gs_apply (c : Dev nD) (t : Fin cfg0.N) (j : Fin 1024) (k : Fin 12288) (hk : k.val = t.val * 1024 + j.val) :
    iblk m c 3 t (ix2 0 j) = m ((c : Thread nD τ).loc main_arg3) (ix1 k) := by
  have e3 := (idx t).2.2.2.1
  have e : ((cfg0.win 3).blk t).view.emb (ix2 0 j) = ix2 0 k := by
    blk_ext [e3]
  show V m c main_v0 (((cfg0.win 3).blk t).view.emb (ix2 0 j)) = _
  rw [e]
  entry_read
  pointwise

/-- The block of up scales a point sees, read at a column. -/
theorem us_apply (c : Dev nD) (t : Fin cfg0.N) (j : Fin 1024) (k : Fin 12288) (hk : k.val = t.val * 1024 + j.val) :
    iblk m c 5 t (ix2 0 j) = m ((c : Thread nD τ).loc main_arg5) (ix1 k) := by
  have e3 := (idx t).2.2.2.2.2.1
  have e : ((cfg0.win 5).blk t).view.emb (ix2 0 j) = ix2 0 k := by
    blk_ext [e3]
  show V m c main_v1 (((cfg0.win 5).blk t).view.emb (ix2 0 j)) = _
  rw [e]
  entry_read
  pointwise

/-- A point's gate tile is its columns of the gate projection. -/
theorem tileG_apply (c : Dev nD) (t : Fin cfg0.N) (r : Fin 96) (j : Fin 1024) (k : Fin 12288) (hk : k.val = t.val * 1024 + j.val) :
    tileG m c t (ix2 r j) = lin (m ((c : Thread nD τ).loc main_arg0)) (m ((c : Thread nD τ).loc main_arg1))
        (m ((c : Thread nD τ).loc main_arg2)) (m ((c : Thread nD τ).loc main_arg3)) r k := by
  have ht : t.val < 12 := Nat.lt_of_lt_of_eq t.isLt N_0
  have hj := j.isLt
  obtain rfl : k = ⟨t.val * 1024 + j.val, by clear hk; omega⟩ := Fin.ext hk
  unfold tileG
  rw [pay3_apply, gs_apply m c t j ⟨t.val * 1024 + j.val, by omega⟩ rfl]
  obtain ⟨e0, e1, e2, -⟩ := idx t
  unfold lin
  blk_point [iblk, V, e0, e1, e2]

/-- A point's up tile is its columns of the up projection. -/
theorem tileU_apply (c : Dev nD) (t : Fin cfg0.N) (r : Fin 96) (j : Fin 1024) (k : Fin 12288) (hk : k.val = t.val * 1024 + j.val) :
    tileU m c t (ix2 r j) = lin (m ((c : Thread nD τ).loc main_arg0)) (m ((c : Thread nD τ).loc main_arg1))
        (m ((c : Thread nD τ).loc main_arg4)) (m ((c : Thread nD τ).loc main_arg5)) r k := by
  have ht : t.val < 12 := Nat.lt_of_lt_of_eq t.isLt N_0
  have hj := j.isLt
  obtain rfl : k = ⟨t.val * 1024 + j.val, by clear hk; omega⟩ := Fin.ext hk
  unfold tileU
  rw [pay4_apply, us_apply m c t j ⟨t.val * 1024 + j.val, by omega⟩ rfl]
  obtain ⟨e0, e1, -, -, e4, -⟩ := idx t
  unfold lin
  blk_point [iblk, V, e0, e1, e4]

/-- The twelve points' hidden tiles side by side are the hidden layer. -/
theorem hidAll_eq (c : Dev nD) : hidAll m c = hid (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  funext y
  unfold hidAll hid
  refine (pay23_apply _ _ (y 0) _).trans ?_
  exact congrArg₂ (fun g u : EReal => g * Ideal.logistic g * u)
    (tileG_apply m c _ (y 0) _ (y 1) (by show (y 1).val = (y 1).val / 1024 * 1024 + (y 1).val % 1024; omega))
    (tileU_apply m c _ (y 0) _ (y 1) (by show (y 1).val = (y 1).val / 1024 * 1024 + (y 1).val % 1024; omega))

theorem final6 (c : Dev nD) : (dats m 0 c).arrAt 6 cfg0.N
    = outLin (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  show (dats m 0 c).after 6 t y = _
  rw [after0_6]
  have h0 : (y 0).val < 96 := (y 0).isLt
  have h1 : (y 1).val < 8 := (y 1).isLt
  have h2 : (y 2).val < 128 := (y 2).isLt
  have ht : t.val < 12 := Nat.lt_of_lt_of_eq t.isLt N_0
  obtain ⟨-, -, -, -, -, -, e6, e7, -⟩ := idx t
  have e : ((cfg0.win 6).blk t).view.emb y = ix3 ⟨(y 0).val, by omega⟩ ⟨t.val * 8 + (y 1).val, by omega⟩ ⟨(y 2).val, by omega⟩ := by
    blk_ext [e6]
  rw [e]
  unfold grp outLin
  exact tileG_apply m c t _ _ _ (by show (t.val * 8 + (y 1).val) * 128 + (y 2).val = t.val * 1024 + ((y 1).val * 128 + (y 2).val); omega)

theorem final7 (c : Dev nD) : (dats m 0 c).arrAt 7 cfg0.N
    = outLin (m ((c : Thread nD τ).loc main_arg0)) (m ((c : Thread nD τ).loc main_arg1))
        (m ((c : Thread nD τ).loc main_arg4)) (m ((c : Thread nD τ).loc main_arg5)) := by
  refine (dats m 0 c).arrAt_eq_of_covers 7 _ (by decide +kernel) fun t hf y => ?_
  show (dats m 0 c).after 7 t y = _
  rw [after0_7]
  have h0 : (y 0).val < 96 := (y 0).isLt
  have h1 : (y 1).val < 8 := (y 1).isLt
  have h2 : (y 2).val < 128 := (y 2).isLt
  have ht : t.val < 12 := Nat.lt_of_lt_of_eq t.isLt N_0
  obtain ⟨-, -, -, -, -, -, e6, e7, -⟩ := idx t
  have e : ((cfg0.win 7).blk t).view.emb y = ix3 ⟨(y 0).val, by omega⟩ ⟨t.val * 8 + (y 1).val, by omega⟩ ⟨(y 2).val, by omega⟩ := by
    blk_ext [e7]
  rw [e]
  unfold grp outLin
  exact tileU_apply m c t _ _ _ (by show (t.val * 8 + (y 1).val) * 128 + (y 2).val = t.val * 1024 + ((y 1).val * 128 + (y 2).val); omega)

/-- The last point, the one whose buffers of codes and scales are written back. -/
def tl : Fin cfg0.N := ⟨11, by decide⟩

theorem final8 (c : Dev nD) : (dats m 0 c).arrAt 8 cfg0.N = codes (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ) := by
  refine (dats m 0 c).arrAt_eq_of_covers 8 _ (by decide +kernel) fun t hf y => ?_
  show (dats m 0 c).after 8 t y = _
  rw [after0_8, hidAll_eq]
  obtain ⟨-, -, -, -, -, -, -, -, e8, -⟩ := idx t
  have e : ((cfg0.win 8).blk t).view.emb y = y := by
    blk_ext [e8]
  rw [e]
  rfl

theorem final9 (c : Dev nD) : (dats m 0 c).arrAt 9 cfg0.N = scales (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ) := by
  refine (dats m 0 c).arrAt_eq_of_covers 9 _ (by decide +kernel) fun t hf y => ?_
  show (dats m 0 c).after 9 t y = _
  rw [after0_9, hidAll_eq]
  obtain ⟨-, -, -, -, -, -, -, -, -, e9⟩ := idx t
  have e : ((cfg0.win 9).blk t).view.emb y = y := by
    blk_ext [e9]
  rw [e]
  rfl

/-- The run: the four results are the values above, and the arguments end unchanged. -/
theorem run : θ_run defs (onTc (τ := τ) (main (F := Ideal))) ⟨m, fun _ => 0, ρ⟩ fun r => ∀ c : Dev nD,
      r.2.mem ((c : Thread nD τ).loc main_v2_0) = outLin (m ((c : Thread nD τ).loc main_arg0)) (m ((c : Thread nD τ).loc main_arg1)) (m ((c : Thread nD τ).loc main_arg2)) (m ((c : Thread nD τ).loc main_arg3))
      ∧ r.2.mem ((c : Thread nD τ).loc main_v2_1) = outLin (m ((c : Thread nD τ).loc main_arg0)) (m ((c : Thread nD τ).loc main_arg1)) (m ((c : Thread nD τ).loc main_arg4)) (m ((c : Thread nD τ).loc main_arg5))
      ∧ r.2.mem ((c : Thread nD τ).loc main_v2_2) = codes (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) )
      ∧ r.2.mem ((c : Thread nD τ).loc main_v2_3) = scales (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) )
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final6 m c), ((h c).1 7).trans (final7 m c),
      ((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end K

end Cert.Proof.GateUp

end
-- ==== Proof.GateUpRef.lean ====
/- What the reference of the gate and up call leaves in its results: the values of the kernel's call. -/
module

public import proofs.«01_k».proof.Proof.GateUpValue
public import proofs.«01_k».proof.Proof.Gen.RefGateUpIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.GateUp

namespace R
open Cert.RefGateUpIdeal Cert.RefGateUpIdeal.Gen

variable (m : (ℓ : Loc nD τ sig) → Buf (Elt Ideal) ℓ) (ρ : Dev nD → PrngReg)

theorem pay3_apply (a : Vec Ideal S96x4096 .fp8e4m3) (w : Vec Ideal S4096x12288 .fp8e4m3) (s : Vec Ideal S96x1 .f32) (ws : Vec Ideal S1x12288 .f32)
    (r : Fin 96) (c : Fin 12288) :
    k0_pay3 (F := Ideal) a w s ws (ix2 r c) = ((∑ k : Fin 4096, a (ix2 r k) * w (ix2 k c)) * s (ix2 r 0)) * ws (ix2 0 c) := by
  pointwise [k0_pay3]

theorem pay4_apply (a : Vec Ideal S96x4096 .fp8e4m3) (w : Vec Ideal S4096x12288 .fp8e4m3) (s : Vec Ideal S96x1 .f32) (ws : Vec Ideal S1x12288 .f32)
    (r : Fin 96) (c : Fin 12288) :
    k0_pay4 (F := Ideal) a w s ws (ix2 r c) = ((∑ k : Fin 4096, a (ix2 r k) * w (ix2 k c)) * s (ix2 r 0)) * ws (ix2 0 c) := by
  pointwise [k0_pay4]

theorem pay5_apply (a : Vec Ideal S96x4096 .fp8e4m3) (w : Vec Ideal S4096x12288 .fp8e4m3) (s : Vec Ideal S96x1 .f32) (ws : Vec Ideal S1x12288 .f32)
    (r : Fin 96) (g : Fin 96) (l : Fin 128) :
    k0_pay5 (F := Ideal) a w s ws (ix3 r g l) = k0_pay3 (F := Ideal) a w s ws (ix2 r ⟨g.val * 128 + l.val, by omega⟩) := by
  pointwise [k0_pay5]

theorem pay6_apply (a : Vec Ideal S96x4096 .fp8e4m3) (w : Vec Ideal S4096x12288 .fp8e4m3) (s : Vec Ideal S96x1 .f32) (ws : Vec Ideal S1x12288 .f32)
    (r : Fin 96) (g : Fin 96) (l : Fin 128) :
    k0_pay6 (F := Ideal) a w s ws (ix3 r g l) = k0_pay4 (F := Ideal) a w s ws (ix2 r ⟨g.val * 128 + l.val, by omega⟩) := by
  pointwise [k0_pay6]

theorem pay7_apply (a : Vec Ideal S96x4096 .fp8e4m3) (w : Vec Ideal S4096x12288 .fp8e4m3) (s : Vec Ideal S96x1 .f32) (ws : Vec Ideal S1x12288 .f32)
    (a' : Vec Ideal S96x4096 .fp8e4m3) (w' : Vec Ideal S4096x12288 .fp8e4m3) (s' : Vec Ideal S96x1 .f32) (ws' : Vec Ideal S1x12288 .f32)
    (r : Fin 96) (c : Fin 12288) :
    k0_pay7 (F := Ideal) a w s ws a' w' s' ws' (ix2 r c) = (k0_pay3 (F := Ideal) a w s ws (ix2 r c) * Ideal.logistic (k0_pay3 (F := Ideal) a w s ws (ix2 r c)))
      * k0_pay4 (F := Ideal) a' w' s' ws' (ix2 r c) := by
  pointwise [k0_pay7]

/-- The stored scales are the scales of the hidden layer. -/
theorem scales_of (a : Vec Ideal S96x4096 .fp8e4m3) (w : Vec Ideal S4096x12288 .fp8e4m3) (s : Vec Ideal S96x1 .f32) (ws : Vec Ideal S1x12288 .f32)
    (a' : Vec Ideal S96x4096 .fp8e4m3) (w' : Vec Ideal S4096x12288 .fp8e4m3) (s' : Vec Ideal S96x1 .f32) (ws' : Vec Ideal S1x12288 .f32) :
    k0_pay1 (F := Ideal) (k0_pay8 (F := Ideal) a w s ws a' w' s' ws') (k0_pay9 (F := Ideal) a w s ws a' w' s' ws') = scales (k0_pay7 (F := Ideal) a w s ws a' w' s' ws') := by
  unfold k0_pay9 k0_pay8
  generalize k0_pay7 (F := Ideal) a w s ws a' w' s' ws' = h
  rfl

/-- The stored codes are the codes of the hidden layer. -/
theorem codes_of (a : Vec Ideal S96x4096 .fp8e4m3) (w : Vec Ideal S4096x12288 .fp8e4m3) (s : Vec Ideal S96x1 .f32) (ws : Vec Ideal S1x12288 .f32)
    (a' : Vec Ideal S96x4096 .fp8e4m3) (w' : Vec Ideal S4096x12288 .fp8e4m3) (s' : Vec Ideal S96x1 .f32) (ws' : Vec Ideal S1x12288 .f32) :
    k0_pay2 (F := Ideal) (k0_pay7 (F := Ideal) a w s ws a' w' s' ws') (k0_pay8 (F := Ideal) a w s ws a' w' s' ws') (k0_pay9 (F := Ideal) a w s ws a' w' s' ws') = codes (k0_pay7 (F := Ideal) a w s ws a' w' s' ws') := by
  unfold k0_pay9 k0_pay8
  generalize k0_pay7 (F := Ideal) a w s ws a' w' s' ws' = h
  rfl

/-- The row maxima of the blocks, read whole. -/
theorem pay10_eq (x0 : Vec Ideal S96x4096 .fp8e4m3) (x1 : Vec Ideal S96x1 .f32) (x2 : Vec Ideal S4096x12288 .fp8e4m3) (x3 : Vec Ideal S1x12288 .f32)
    (x4 : Vec Ideal S4096x12288 .fp8e4m3) (x5 : Vec Ideal S1x12288 .f32) :
    k0_pay10 (F := Ideal) x0 x1 x2 x3 x4 x5 = k0_pay8 (F := Ideal) x0 x2 x1 x3 x0 x4 x1 x5 := by
  unfold k0_pay10
  frame_out

/-- Which row maxima of the blocks are positive, read whole. -/
theorem pay11_eq (x0 : Vec Ideal S96x4096 .fp8e4m3) (x1 : Vec Ideal S96x1 .f32) (x2 : Vec Ideal S4096x12288 .fp8e4m3) (x3 : Vec Ideal S1x12288 .f32)
    (x4 : Vec Ideal S4096x12288 .fp8e4m3) (x5 : Vec Ideal S1x12288 .f32) :
    k0_pay11 (F := Ideal) x0 x1 x2 x3 x4 x5 = k0_pay9 (F := Ideal) x0 x2 x1 x3 x0 x4 x1 x5 := by
  unfold k0_pay11
  frame_out

/-- The one grid point. -/
def t₀ : Fin cfg0.N := ⟨0, by decide⟩

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![0, 0, 0] ∧ win0_8.index t = ![0, 0] ∧ win0_9.index t = ![0, 0] :=
  (by decide +kernel : ∀ t : Fin grid0.N, _)

/-- The gate projection of the blocks, read at an element. -/
theorem gate_apply (c : Dev nD) (t : Fin cfg0.N) (r : Fin 96) (k : Fin 12288) :
    k0_pay3 (F := Ideal) (iblk m c 0 t) (iblk m c 2 t) (iblk m c 1 t) (iblk m c 3 t) (ix2 r k)
    = lin (m ((c : Thread nD τ).loc main_arg0)) (m ((c : Thread nD τ).loc main_arg1))
        (m ((c : Thread nD τ).loc main_arg2)) (m ((c : Thread nD τ).loc main_arg3)) r k := by
  rw [pay3_apply]
  obtain ⟨e0, e1, e2, e3, -⟩ := idx t
  unfold lin
  blk_point [iblk, V, e0, e1, e2, e3]

/-- The up projection of the blocks, read at an element. -/
theorem up_apply (c : Dev nD) (t : Fin cfg0.N) (r : Fin 96) (k : Fin 12288) :
    k0_pay4 (F := Ideal) (iblk m c 0 t) (iblk m c 4 t) (iblk m c 1 t) (iblk m c 5 t) (ix2 r k)
    = lin (m ((c : Thread nD τ).loc main_arg0)) (m ((c : Thread nD τ).loc main_arg1))
        (m ((c : Thread nD τ).loc main_arg4)) (m ((c : Thread nD τ).loc main_arg5)) r k := by
  rw [pay4_apply]
  obtain ⟨e0, e1, e2, e3, e4, e5, -⟩ := idx t
  unfold lin
  blk_point [iblk, V, e0, e1, e4, e5]

/-- The hidden layer of the blocks. -/
theorem hid_eq (c : Dev nD) (t : Fin cfg0.N) :
    k0_pay7 (F := Ideal) (iblk m c 0 t) (iblk m c 2 t) (iblk m c 1 t) (iblk m c 3 t) (iblk m c 0 t) (iblk m c 4 t) (iblk m c 1 t) (iblk m c 5 t)
    = hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))  := by
  funext y
  idx_vars y
  rw [pay7_apply, gate_apply, up_apply]
  rfl

theorem final6 (c : Dev nD) : (dats (F := Ideal) m 0 c).arrAt 6 cfg0.N
    = outLin (m ((c : Thread nD τ).loc main_arg0)) (m ((c : Thread nD τ).loc main_arg1))
        (m ((c : Thread nD τ).loc main_arg2)) (m ((c : Thread nD τ).loc main_arg3)) := by
  refine (dats m 0 c).arrAt_eq_of_after_last 6 t₀ (by decide +kernel) _ fun j => ?_
  unfold outLin
  blk_simp
  rw [after0_6]
  frame_out
  idx_vars j
  rw [pay5_apply, gate_apply]

theorem final7 (c : Dev nD) : (dats (F := Ideal) m 0 c).arrAt 7 cfg0.N
    = outLin (m ((c : Thread nD τ).loc main_arg0)) (m ((c : Thread nD τ).loc main_arg1))
        (m ((c : Thread nD τ).loc main_arg4)) (m ((c : Thread nD τ).loc main_arg5)) := by
  refine (dats m 0 c).arrAt_eq_of_after_last 7 t₀ (by decide +kernel) _ fun j => ?_
  unfold outLin
  blk_simp
  rw [after0_7]
  frame_out
  idx_vars j
  rw [pay6_apply, up_apply]

theorem final8 (c : Dev nD) : (dats (F := Ideal) m 0 c).arrAt 8 cfg0.N = codes (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ) := by
  refine (dats m 0 c).arrAt_eq_of_after_last 8 t₀ (by decide +kernel) _ fun j => ?_
  rw [← hid_eq m c t₀, ← codes_of]
  blk_simp
  rw [after0_8]
  frame_out
  rw [pay10_eq, pay11_eq]

theorem final9 (c : Dev nD) : (dats (F := Ideal) m 0 c).arrAt 9 cfg0.N = scales (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ) := by
  refine (dats m 0 c).arrAt_eq_of_after_last 9 t₀ (by decide +kernel) _ fun j => ?_
  rw [← hid_eq m c t₀, ← scales_of]
  blk_simp
  rw [after0_9]
  frame_out
  rw [pay10_eq, pay11_eq]

/-- The run: the four results are the values above, and the arguments end unchanged. -/
theorem run : θ_run defs (onTc (τ := τ) (main (F := Ideal))) ⟨m, fun _ => 0, ρ⟩ fun r => ∀ c : Dev nD,
      r.2.mem ((c : Thread nD τ).loc main_v2_0) = outLin (m ((c : Thread nD τ).loc main_arg0)) (m ((c : Thread nD τ).loc main_arg1)) (m ((c : Thread nD τ).loc main_arg2)) (m ((c : Thread nD τ).loc main_arg3))
      ∧ r.2.mem ((c : Thread nD τ).loc main_v2_1) = outLin (m ((c : Thread nD τ).loc main_arg0)) (m ((c : Thread nD τ).loc main_arg1)) (m ((c : Thread nD τ).loc main_arg4)) (m ((c : Thread nD τ).loc main_arg5))
      ∧ r.2.mem ((c : Thread nD τ).loc main_v2_2) = codes (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) )
      ∧ r.2.mem ((c : Thread nD τ).loc main_v2_3) = scales (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) )
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final6 m c), ((h c).1 7).trans (final7 m c),
      ((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end R

end Cert.Proof.GateUp

end
-- ==== Proof.GateUpClaim.lean ====
/- The claim of the gate and up call: the call and its reference compute the same function. -/
module

public import proofs.«01_k».proof.Defs
public import proofs.«01_k».proof.Proof.GateUpRef

@[expose] public section

noncomputable section

open Idealize.ShloMosaic Idealize.ShloMosaic.TcCoe Idealize.SL.Sem

namespace Cert.Proof.GateUp

/-- From equal arguments, the gate and up projection call and its reference leave equal results. -/
theorem algebraic : Cert.algebraic_GateUpIdeal_RefGateUpIdeal (hGateUpIdeal := Cert.GateUpIdeal.Gen.facts)
    (hRefGateUpIdeal := Cert.RefGateUpIdeal.Gen.facts) := by
  intro m g m' g' _ hargs
  refine ⟨fun c => _, fun c => _, fun c => _, fun c => _, K.run m g, ?_⟩
  refine (θ_run (Cert.RefGateUpIdeal.defs (F := Ideal)) _ _).mono (fun r h c => ?_) (R.run m' g')
  obtain ⟨h0, h1, h2, h3, h4⟩ := h c
  obtain ⟨a0, a1, a2, a3, a4, a5⟩ := hargs c
  refine ⟨h0.trans ?_, h1.trans ?_, h2.trans ?_, h3.trans ?_, h4⟩
  · rw [a0, a1, a2, a3]
  · rw [a0, a1, a4, a5]
  · rw [a0, a1, a2, a3, a4, a5]
  · rw [a0, a1, a2, a3, a4, a5]

end Cert.Proof.GateUp

end
-- ==== Proof.DownValue.lean ====
/- What the down projection call and its reference leave in their results, as functions of the argument arrays. -/
module

public import proofs.«01_k».proof.Proof.Gen.DownIdeal.Value
public import proofs.«01_k».proof.Proof.Gen.RefDownIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Down

/-- Element (r, c) of the down projection: the product of the codes and the weight, times the row's scale, times the column's. -/
def lin (a : Vec Ideal ⟨2, ![96, 12288]⟩ .fp8e4m3) (s : Vec Ideal ⟨2, ![96, 1]⟩ .f32) (w : Vec Ideal ⟨2, ![12288, 4096]⟩ .fp8e4m3)
    (ws : Vec Ideal ⟨1, ![4096]⟩ .f32) (r : Fin 96) (c : Fin 4096) : EReal :=
  ((∑ k : Fin 12288, a (ix2 r k) * w (ix2 k c)) * s (ix2 r 0)) * ws (ix1 c)

/-- The down projection in column groups of 128. -/
def outLin (a : Vec Ideal ⟨2, ![96, 12288]⟩ .fp8e4m3) (s : Vec Ideal ⟨2, ![96, 1]⟩ .f32) (w : Vec Ideal ⟨2, ![12288, 4096]⟩ .fp8e4m3)
    (ws : Vec Ideal ⟨1, ![4096]⟩ .f32) : Vec Ideal ⟨3, ![96, 32, 128]⟩ .f32 :=
  fun i => lin a s w ws (i 0) ⟨(i 1).val * 128 + (i 2).val, by have := (i 1).isLt; have := (i 2).isLt; simp at *; omega⟩

/-- The residual plus the down projection. -/
def outRes (a : Vec Ideal ⟨2, ![96, 12288]⟩ .fp8e4m3) (s : Vec Ideal ⟨2, ![96, 1]⟩ .f32) (w : Vec Ideal ⟨2, ![12288, 4096]⟩ .fp8e4m3)
    (ws : Vec Ideal ⟨1, ![4096]⟩ .f32) (x : Vec Ideal ⟨2, ![96, 4096]⟩ .f32) : Vec Ideal ⟨2, ![96, 4096]⟩ .bf16 :=
  fun i => (x (ix2 (i 0) (i 1)) : EReal) + lin a s w ws (i 0) (i 1)

namespace K
open Cert.DownIdeal Cert.DownIdeal.Gen Cert.DownIdeal.Value

variable (m : (ℓ : Loc nD τ sig) → Buf (Elt Ideal) ℓ) (ρ : Dev nD → PrngReg)

theorem pay5_apply (a : Vec Ideal S96x12288 .fp8e4m3) (w : Vec Ideal S12288x1024 .fp8e4m3) (s : Vec Ideal S96x1 .f32) (ws : Vec Ideal S1x1024 .f32)
    (r : Fin 96) (c : Fin 1024) :
    k0_pay5 (F := Ideal) a w s ws (ix2 r c) = ((∑ k : Fin 12288, a (ix2 r k) * w (ix2 k c)) * s (ix2 r 0)) * ws (ix2 0 c) := by
  pointwise [k0_pay5]

theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val, 0] ∧ win0_6.index t = ![0, t.val] :=
  (by decide +kernel : ∀ t : Fin grid0.N, _)

/-- The block of column scales a point sees, read at a column. -/
theorem ws_apply (c : Dev nD) (t : Fin cfg0.N) (j : Fin 1024) (k : Fin 4096) (hk : k.val = t.val * 1024 + j.val) :
    View.ld (iblk m c 3 t) r0_3 (ix2 0 j) = m ((c : Thread nD τ).loc main_arg3) (ix1 k) := by
  have e3 := (idx t).2.2.2.1
  rw [show View.ld (iblk m c 3 t) r0_3 = iblk m c 3 t from View.ld_unit_lit (S := S1x1024) (off := ![0, 0]) _ _ (by decide)]
  have e : ((cfg0.win 3).blk t).view.emb (ix2 0 j) = ix2 0 k := by
    blk_ext [e3]
  show V m c main_v0 (((cfg0.win 3).blk t).view.emb (ix2 0 j)) = _
  rw [e]
  entry_read
  pointwise

theorem final5 (c : Dev nD) : (dats (F := Ideal) m 0 c).arrAt 5 cfg0.N
    = outLin (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  unfold outLin
  blk_simp
  rw [after0_5]
  unfold_out out0_5
  rw [canon5_eq]
  have h0 := (y 0).isLt
  have h1 := (y 1).isLt
  have h2 := (y 2).isLt
  simp at h0 h1 h2
  have ht : t.val < 4 := t.isLt
  have e : ix5_0 y = ix2 ⟨(y 0).val, by omega⟩ ⟨(y 1).val * 128 + (y 2).val, by omega⟩ := by
    funext a; fin_cases a <;> rfl
  show k0_pay5 _ _ _ _ (ix5_0 y) = _
  rw [e, pay5_apply]
  obtain ⟨e0, e1, e2, e3, e4, e5, e6⟩ := idx t
  rw [ws_apply m c t _ ⟨(t.val * 8 + (y 1).val) * 128 + (y 2).val, by omega⟩ (by show (t.val * 8 + (y 1).val) * 128 + (y 2).val = t.val * 1024 + ((y 1).val * 128 + (y 2).val); omega)]
  unfold lin
  blk_point [iblk, V, e0, e1, e2, e3, e5]

theorem pay4_apply (v : FVec Ideal S96x1024 .f32) (x : Vec Ideal S96x1024 .f32) (r : Fin 96) (c : Fin 1024) :
    k0_pay4 (F := Ideal) v x (ix2 r c) = x (ix2 r c) + v (ix2 r c) := by
  pointwise [k0_pay4]

theorem final6 (c : Dev nD) : (dats (F := Ideal) m 0 c).arrAt 6 cfg0.N
    = outRes (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  show (dats m 0 c).after 6 t y = _
  rw [after0_6]
  frame_out
  have h0 := (y 0).isLt
  have h1 := (y 1).isLt
  simp at h0 h1
  have ht : t.val < 4 := t.isLt
  have e : y = ix2 ⟨(y 0).val, by omega⟩ ⟨(y 1).val, by omega⟩ := by
    funext a; fin_cases a <;> rfl
  obtain ⟨e0, e1, e2, e3, e4, e5, e6⟩ := idx t
  unfold k0_pay11
  have e7 : ((cfg0.win 6).blk t).view.emb y = ix2 ⟨(y 0).val, by omega⟩ ⟨t.val * 1024 + (y 1).val, by omega⟩ := by
    blk_ext [e6]
  rw [e7]
  refine (congrArg (k0_pay4 _ _) e).trans ?_
  rw [pay4_apply, pay5_apply]
  rw [ws_apply m c t ⟨(y 1).val, by omega⟩ ⟨t.val * 1024 + (y 1).val, by omega⟩ rfl]
  show _ = (_ : EReal) + lin _ _ _ _ ⟨(y 0).val, _⟩ ⟨t.val * 1024 + (y 1).val, _⟩
  unfold lin
  blk_point [iblk, V, e0, e1, e2, e3, e4, e6]

/-- The run: the two results are the values above, and the arguments end unchanged. -/
theorem run : θ_run defs (onTc (τ := τ) (main (F := Ideal))) ⟨m, fun _ => 0, ρ⟩ fun r => ∀ c : Dev nD,
      r.2.mem ((c : Thread nD τ).loc main_v1_0) = outLin (m ((c : Thread nD τ).loc main_arg0)) (m ((c : Thread nD τ).loc main_arg1))
        (m ((c : Thread nD τ).loc main_arg2)) (m ((c : Thread nD τ).loc main_arg3))
      ∧ r.2.mem ((c : Thread nD τ).loc main_v1_1) = outRes (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c),
      ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c)))⟩)
    (run_main m ρ)

end K

namespace R
open Cert.RefDownIdeal Cert.RefDownIdeal.Gen

variable (m : (ℓ : Loc nD τ sig) → Buf (Elt Ideal) ℓ) (ρ : Dev nD → PrngReg)

theorem pay1_apply (a : Vec Ideal S96x12288 .fp8e4m3) (w : Vec Ideal S12288x4096 .fp8e4m3) (s : Vec Ideal S96x1 .f32) (ws : Vec Ideal S1x4096 .f32)
    (r : Fin 96) (c : Fin 4096) :
    k0_pay1 (F := Ideal) a w s ws (ix2 r c) = ((∑ k : Fin 12288, a (ix2 r k) * w (ix2 k c)) * s (ix2 r 0)) * ws (ix2 0 c) := by
  pointwise [k0_pay1]

theorem pay2_apply (a : Vec Ideal S96x12288 .fp8e4m3) (w : Vec Ideal S12288x4096 .fp8e4m3) (s : Vec Ideal S96x1 .f32) (ws : Vec Ideal S1x4096 .f32)
    (r : Fin 96) (g : Fin 32) (l : Fin 128) :
    k0_pay2 (F := Ideal) a w s ws (ix3 r g l) = k0_pay1 (F := Ideal) a w s ws (ix2 r ⟨g.val * 128 + l.val, by omega⟩) := by
  pointwise [k0_pay2]

theorem pay3_apply (a : Vec Ideal S96x12288 .fp8e4m3) (w : Vec Ideal S12288x4096 .fp8e4m3) (s : Vec Ideal S96x1 .f32) (ws : Vec Ideal S1x4096 .f32)
    (x : Vec Ideal S96x4096 .f32) (r : Fin 96) (c : Fin 4096) :
    k0_pay3 (F := Ideal) a w s ws x (ix2 r c) = x (ix2 r c) + k0_pay1 (F := Ideal) a w s ws (ix2 r c) := by
  pointwise [k0_pay3]

/-- The one grid point. -/
def t₀ : Fin cfg0.N := ⟨0, by decide⟩

theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

theorem final5 (c : Dev nD) : (dats (F := Ideal) m 0 c).arrAt 5 cfg0.N
    = outLin (m ((c : Thread nD τ).loc main_arg0)) (m ((c : Thread nD τ).loc main_arg1))
        (m ((c : Thread nD τ).loc main_arg2)) (m ((c : Thread nD τ).loc main_arg3)) := by
  refine (dats m 0 c).arrAt_eq_of_after_last 5 t₀ (by decide +kernel) _ fun j => ?_
  unfold outLin
  blk_simp
  rw [after0_5]
  frame_out
  idx_vars j
  rw [pay2_apply, pay1_apply]
  unfold lin
  obtain ⟨e0, e1, e2, e3, e4⟩ := idx t₀
  blk_point [iblk, V, e0, e1, e2, e3, e4]

theorem final6 (c : Dev nD) : (dats (F := Ideal) m 0 c).arrAt 6 cfg0.N
    = outRes (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_after_last 6 t₀ (by decide +kernel) _ fun j => ?_
  unfold outRes
  blk_simp
  rw [after0_6]
  frame_out
  idx_vars j
  rw [pay3_apply, pay1_apply]
  unfold lin
  obtain ⟨e0, e1, e2, e3, e4⟩ := idx t₀
  blk_point [iblk, V, e0, e1, e2, e3, e4]

/-- The run: the two results are the values above, and the arguments end unchanged. -/
theorem run : θ_run defs (onTc (τ := τ) (main (F := Ideal))) ⟨m, fun _ => 0, ρ⟩ fun r => ∀ c : Dev nD,
      r.2.mem ((c : Thread nD τ).loc main_v1_0) = outLin (m ((c : Thread nD τ).loc main_arg0)) (m ((c : Thread nD τ).loc main_arg1))
        (m ((c : Thread nD τ).loc main_arg2)) (m ((c : Thread nD τ).loc main_arg3))
      ∧ r.2.mem ((c : Thread nD τ).loc main_v1_1) = outRes (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c),
      ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c)))⟩)
    (run_main m ρ)

end R

end Cert.Proof.Down

end
-- ==== Proof.DownClaim.lean ====
/- The claim of the down projection call: the call and its reference compute the same function. -/
module

public import proofs.«01_k».proof.Defs
public import proofs.«01_k».proof.Proof.DownValue

@[expose] public section

noncomputable section

open Idealize.ShloMosaic Idealize.ShloMosaic.TcCoe Idealize.SL.Sem

namespace Cert.Proof.Down

/-- From equal arguments, the down projection call and its reference leave equal results. -/
theorem algebraic : Cert.algebraic_DownIdeal_RefDownIdeal (hDownIdeal := Cert.DownIdeal.Gen.facts)
    (hRefDownIdeal := Cert.RefDownIdeal.Gen.facts) := by
  intro m g m' g' _ hargs
  refine ⟨fun c => _, fun c => _, K.run m g, ?_⟩
  refine (θ_run (Cert.RefDownIdeal.defs (F := Ideal)) _ _).mono (fun r h c => ?_) (R.run m' g')
  obtain ⟨h0, h1, h2⟩ := h c
  obtain ⟨a0, a1, a2, a3, a4⟩ := hargs c
  refine ⟨h0.trans ?_, h1.trans ?_, h2⟩
  · rw [a0, a1, a2, a3]
  · rw [a0, a1, a2, a3, a4]

end Cert.Proof.Down

end
-- ==== Proof.lean ====
module

public import proofs.«01_k».proof.Defs
public import proofs.«01_k».proof.Proof.Gen.RefInProjIdeal.Frame
public import proofs.«01_k».proof.Proof.Gen.RefOutProjIdeal.Frame
public import proofs.«01_k».proof.Proof.Gen.RefGateUpIdeal.Frame
public import proofs.«01_k».proof.Proof.Gen.Down.Frame
public import proofs.«01_k».proof.Proof.Gen.DownIdeal.Frame
public import proofs.«01_k».proof.Proof.Gen.DownIdeal.Value
public import proofs.«01_k».proof.Proof.Gen.RefDownIdeal.Frame
public import proofs.«01_k».proof.Proof.InProjFrame
public import proofs.«01_k».proof.Proof.InProjClaim
public import proofs.«01_k».proof.Proof.OutProjFrame
public import proofs.«01_k».proof.Proof.OutProjClaim
public import proofs.«01_k».proof.Proof.GateUpFrame
public import proofs.«01_k».proof.Proof.GateUpClaim
public import proofs.«01_k».proof.Proof.DownClaim
public import Idealize.ShloMosaic.Adequacy

@[expose] public section

noncomputable section

namespace Cert.Proof

open Idealize.ShloMosaic Idealize.SL.Sem

/-- Every claim of the certificate. -/
theorem claim : Cert.Claim := ⟨Cert.InProj.Gen.facts, Cert.InProjIdeal.Gen.facts, Cert.RefInProjIdeal.Gen.facts,
  Cert.OutProj.Gen.facts, Cert.OutProjIdeal.Gen.facts, Cert.RefOutProjIdeal.Gen.facts,
  Cert.GateUp.Gen.facts, Cert.GateUpIdeal.Gen.facts, Cert.RefGateUpIdeal.Gen.facts,
  Cert.Down.Gen.facts, Cert.DownIdeal.Gen.facts, Cert.RefDownIdeal.Gen.facts,
  fun m g _ => Cert.InProj.Gen.Whole.frame m g,
  fun m g _ => Cert.InProjIdeal.Gen.Whole.frame m g,
  fun m g _ => Cert.RefInProjIdeal.Gen.frame m g,
  fun m g _ => Cert.OutProj.Gen.Whole.frame m g,
  fun m g _ => Cert.OutProjIdeal.Gen.Whole.frame m g,
  fun m g _ => Cert.RefOutProjIdeal.Gen.frame m g,
  fun m g _ => Cert.GateUp.Gen.Whole.frame m g,
  fun m g _ => Cert.GateUpIdeal.Gen.Whole.frame m g,
  fun m g _ => Cert.RefGateUpIdeal.Gen.frame m g,
  fun m g _ => Cert.Down.Gen.frame m g,
  fun m g _ => Cert.DownIdeal.Gen.frame m g,
  fun m g _ => Cert.RefDownIdeal.Gen.frame m g,
  trivial, Cert.Proof.InProj.algebraic,
  trivial, Cert.Proof.OutProj.algebraic,
  trivial, Cert.Proof.GateUp.algebraic,
  trivial, Cert.Proof.Down.algebraic⟩

end Cert.Proof

end
